-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 256]⟩ ⟨2, ![2048, 256]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x256 : Shape := ⟨2, ![512, 256]⟩
abbrev S256x512 : Shape := ⟨2, ![256, 512]⟩
abbrev S2048x512 : Shape := ⟨2, ![2048, 512]⟩
abbrev S3x512x256 : Shape := ⟨3, ![3, 512, 256]⟩
abbrev S4x512x512 : Shape := ⟨3, ![4, 512, 512]⟩
abbrev S2 : Shape := ⟨1, ![2]⟩
abbrev S3 : Shape := ⟨1, ![3]⟩
abbrev S4 : Shape := ⟨1, ![4]⟩
abbrev S1 : Shape := ⟨1, ![1]⟩
abbrev S_ : Shape := ⟨0, ![]⟩
abbrev S1x512x256 : Shape := ⟨3, ![1, 512, 256]⟩
abbrev S512x512 : Shape := ⟨2, ![512, 512]⟩
abbrev S1x512x512 : Shape := ⟨3, ![1, 512, 512]⟩

abbrev nBuf : Space → Nat
  | .hbm => 3
  | .vmem => 6
  | .smem => 0
  | _ => 0

abbrev bufTy : (tb : Table) → Fin (tcTables nBuf tb) → BufTy
  | .hbm, ⟨0, _⟩ => ⟨S512x256, .f32⟩
  | .hbm, ⟨1, _⟩ => ⟨S256x512, .f32⟩
  | .hbm, ⟨2, _⟩ => ⟨S2048x512, .bf16⟩
  | .local _ .vmem, ⟨0, _⟩ => ⟨S512x256, .f32⟩
  | .local _ .vmem, ⟨1, _⟩ => ⟨S256x512, .f32⟩
  | .local _ .vmem, ⟨2, _⟩ => ⟨S512x256, .bf16⟩
  | .local _ .vmem, ⟨3, _⟩ => ⟨S256x512, .bf16⟩
  | .local _ .vmem, ⟨4, _⟩ => ⟨S3x512x256, .bf16⟩
  | .local _ .vmem, ⟨5, _⟩ => ⟨S4x512x512, .bf16⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  (ofTc nBuf bufTy 1 12 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_10 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v8 : BitVec 32 := Scalar.addi v2 c1_i32_1
  let c4_i32_2 : BitVec 32 := 4#32
  let c0_i32_3 : BitVec 32 := 0#32
  let v9 : BitVec 1 := Scalar.cmpi .eq c4_i32_2 c0_i32_3
  let c1_i32_4 : BitVec 32 := 1#32
  let v10 : BitVec 32 := Scalar.select v9 c1_i32_4 c4_i32_2
  let v11 : BitVec 32 := Scalar.remsi v8 v10
  let c0_i32_6 : BitVec 32 := 0#32
  let v13 : BitVec 1 := Scalar.cmpi .slt v11 c0_i32_6
  let c0_i32_7 : BitVec 32 := 0#32
  let v14 : BitVec 1 := Scalar.cmpi .slt v10 c0_i32_7
  let v15 : BitVec 1 := Scalar.xori v13 v14
  let c0_i32_5 : BitVec 32 := 0#32
  let v12 : BitVec 1 := Scalar.cmpi .ne v11 c0_i32_5
  let v16 : BitVec 1 := Scalar.andi v15 v12
  let v17 : BitVec 32 := Scalar.addi v11 v10
  let v18 : BitVec 32 := Scalar.select v16 v17 v11
  let c1_i32_9 : BitVec 32 := 1#32
  let v19 : BitVec 32 := Scalar.muli v18 c1_i32_9
  let v20 : BitVec 32 := Scalar.addi c0_i32_10 v19
  v20.toNat
def k0_dev2 (d0 : Dev nD) : Nat :=
  let c0_i32_19 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v21 : BitVec 32 := Scalar.addi v2 c2_i32
  let c4_i32_11 : BitVec 32 := 4#32
  let c0_i32_12 : BitVec 32 := 0#32
  let v22 : BitVec 1 := Scalar.cmpi .eq c4_i32_11 c0_i32_12
  let c1_i32_13 : BitVec 32 := 1#32
  let v23 : BitVec 32 := Scalar.select v22 c1_i32_13 c4_i32_11
  let v24 : BitVec 32 := Scalar.remsi v21 v23
  let c0_i32_15 : BitVec 32 := 0#32
  let v26 : BitVec 1 := Scalar.cmpi .slt v24 c0_i32_15
  let c0_i32_16 : BitVec 32 := 0#32
  let v27 : BitVec 1 := Scalar.cmpi .slt v23 c0_i32_16
  let v28 : BitVec 1 := Scalar.xori v26 v27
  let c0_i32_14 : BitVec 32 := 0#32
  let v25 : BitVec 1 := Scalar.cmpi .ne v24 c0_i32_14
  let v29 : BitVec 1 := Scalar.andi v28 v25
  let v30 : BitVec 32 := Scalar.addi v24 v23
  let v31 : BitVec 32 := Scalar.select v29 v30 v24
  let c1_i32_18 : BitVec 32 := 1#32
  let v32 : BitVec 32 := Scalar.muli v31 c1_i32_18
  let v33 : BitVec 32 := Scalar.addi c0_i32_19 v32
  v33.toNat
def k0_dev3 (d0 : Dev nD) : Nat :=
  let c0_i32_28 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v34 : BitVec 32 := Scalar.addi v2 c3_i32
  let c4_i32_20 : BitVec 32 := 4#32
  let c0_i32_21 : BitVec 32 := 0#32
  let v35 : BitVec 1 := Scalar.cmpi .eq c4_i32_20 c0_i32_21
  let c1_i32_22 : BitVec 32 := 1#32
  let v36 : BitVec 32 := Scalar.select v35 c1_i32_22 c4_i32_20
  let v37 : BitVec 32 := Scalar.remsi v34 v36
  let c0_i32_24 : BitVec 32 := 0#32
  let v39 : BitVec 1 := Scalar.cmpi .slt v37 c0_i32_24
  let c0_i32_25 : BitVec 32 := 0#32
  let v40 : BitVec 1 := Scalar.cmpi .slt v36 c0_i32_25
  let v41 : BitVec 1 := Scalar.xori v39 v40
  let c0_i32_23 : BitVec 32 := 0#32
  let v38 : BitVec 1 := Scalar.cmpi .ne v37 c0_i32_23
  let v42 : BitVec 1 := Scalar.andi v41 v38
  let v43 : BitVec 32 := Scalar.addi v37 v36
  let v44 : BitVec 32 := Scalar.select v42 v43 v37
  let c1_i32_27 : BitVec 32 := 1#32
  let v45 : BitVec 32 := Scalar.muli v44 c1_i32_27
  let v46 : BitVec 32 := Scalar.addi c0_i32_28 v45
  v46.toNat
def k0_dev4 (d0 : Dev nD) : Nat :=
  let c0_i32_45 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_34 : BitVec 32 := 1#32
  let v54 : BitVec 32 := Scalar.addi v2 c1_i32_34
  let c4_i32_35 : BitVec 32 := 4#32
  let c0_i32_36 : BitVec 32 := 0#32
  let v55 : BitVec 1 := Scalar.cmpi .eq c4_i32_35 c0_i32_36
  let c1_i32_37 : BitVec 32 := 1#32
  let v56 : BitVec 32 := Scalar.select v55 c1_i32_37 c4_i32_35
  let v57 : BitVec 32 := Scalar.remsi v54 v56
  let c0_i32_39 : BitVec 32 := 0#32
  let v59 : BitVec 1 := Scalar.cmpi .slt v57 c0_i32_39
  let c0_i32_40 : BitVec 32 := 0#32
  let v60 : BitVec 1 := Scalar.cmpi .slt v56 c0_i32_40
  let v61 : BitVec 1 := Scalar.xori v59 v60
  let c0_i32_38 : BitVec 32 := 0#32
  let v58 : BitVec 1 := Scalar.cmpi .ne v57 c0_i32_38
  let v62 : BitVec 1 := Scalar.andi v61 v58
  let v63 : BitVec 32 := Scalar.addi v57 v56
  let v64 : BitVec 32 := Scalar.select v62 v63 v57
  let c1_i32_44 : BitVec 32 := 1#32
  let v65 : BitVec 32 := Scalar.muli v64 c1_i32_44
  let v66 : BitVec 32 := Scalar.addi c0_i32_45 v65
  v66.toNat
def k0_dev5 (d0 : Dev nD) : Nat :=
  let c0_i32_59 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_48 : BitVec 32 := 2#32
  let v73 : BitVec 32 := Scalar.addi v2 c2_i32_48
  let c4_i32_49 : BitVec 32 := 4#32
  let c0_i32_50 : BitVec 32 := 0#32
  let v74 : BitVec 1 := Scalar.cmpi .eq c4_i32_49 c0_i32_50
  let c1_i32_51 : BitVec 32 := 1#32
  let v75 : BitVec 32 := Scalar.select v74 c1_i32_51 c4_i32_49
  let v76 : BitVec 32 := Scalar.remsi v73 v75
  let c0_i32_53 : BitVec 32 := 0#32
  let v78 : BitVec 1 := Scalar.cmpi .slt v76 c0_i32_53
  let c0_i32_54 : BitVec 32 := 0#32
  let v79 : BitVec 1 := Scalar.cmpi .slt v75 c0_i32_54
  let v80 : BitVec 1 := Scalar.xori v78 v79
  let c0_i32_52 : BitVec 32 := 0#32
  let v77 : BitVec 1 := Scalar.cmpi .ne v76 c0_i32_52
  let v81 : BitVec 1 := Scalar.andi v80 v77
  let v82 : BitVec 32 := Scalar.addi v76 v75
  let v83 : BitVec 32 := Scalar.select v81 v82 v76
  let c1_i32_58 : BitVec 32 := 1#32
  let v84 : BitVec 32 := Scalar.muli v83 c1_i32_58
  let v85 : BitVec 32 := Scalar.addi c0_i32_59 v84
  v85.toNat
def k0_dev6 (d0 : Dev nD) : Nat :=
  let c0_i32_73 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_62 : BitVec 32 := 3#32
  let v92 : BitVec 32 := Scalar.addi v2 c3_i32_62
  let c4_i32_63 : BitVec 32 := 4#32
  let c0_i32_64 : BitVec 32 := 0#32
  let v93 : BitVec 1 := Scalar.cmpi .eq c4_i32_63 c0_i32_64
  let c1_i32_65 : BitVec 32 := 1#32
  let v94 : BitVec 32 := Scalar.select v93 c1_i32_65 c4_i32_63
  let v95 : BitVec 32 := Scalar.remsi v92 v94
  let c0_i32_67 : BitVec 32 := 0#32
  let v97 : BitVec 1 := Scalar.cmpi .slt v95 c0_i32_67
  let c0_i32_68 : BitVec 32 := 0#32
  let v98 : BitVec 1 := Scalar.cmpi .slt v94 c0_i32_68
  let v99 : BitVec 1 := Scalar.xori v97 v98
  let c0_i32_66 : BitVec 32 := 0#32
  let v96 : BitVec 1 := Scalar.cmpi .ne v95 c0_i32_66
  let v100 : BitVec 1 := Scalar.andi v99 v96
  let v101 : BitVec 32 := Scalar.addi v95 v94
  let v102 : BitVec 32 := Scalar.select v100 v101 v95
  let c1_i32_72 : BitVec 32 := 1#32
  let v103 : BitVec 32 := Scalar.muli v102 c1_i32_72
  let v104 : BitVec 32 := Scalar.addi c0_i32_73 v103
  v104.toNat
def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32 : BitVec 32 := 512#32
  let v125 : BitVec 32 := Scalar.muli v2 c512_i32
  let c0_i32_90 : BitVec 32 := 0#32
  ![v125.toNat, 0]
def k0_off2 (d0 : Dev nD) (c1_i32_103 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v139 : BitVec 32 := Scalar.subi v2 c1_i32_103
  let c4_i32_104 : BitVec 32 := 4#32
  let c0_i32_105 : BitVec 32 := 0#32
  let v140 : BitVec 1 := Scalar.cmpi .eq c4_i32_104 c0_i32_105
  let c1_i32_106 : BitVec 32 := 1#32
  let v141 : BitVec 32 := Scalar.select v140 c1_i32_106 c4_i32_104
  let v142 : BitVec 32 := Scalar.remsi v139 v141
  let c0_i32_108 : BitVec 32 := 0#32
  let v144 : BitVec 1 := Scalar.cmpi .slt v142 c0_i32_108
  let c0_i32_109 : BitVec 32 := 0#32
  let v145 : BitVec 1 := Scalar.cmpi .slt v141 c0_i32_109
  let v146 : BitVec 1 := Scalar.xori v144 v145
  let c0_i32_107 : BitVec 32 := 0#32
  let v143 : BitVec 1 := Scalar.cmpi .ne v142 c0_i32_107
  let v147 : BitVec 1 := Scalar.andi v146 v143
  let v148 : BitVec 32 := Scalar.addi v142 v141
  let v149 : BitVec 32 := Scalar.select v147 v148 v142
  let c512_i32_115 : BitVec 32 := 512#32
  let v156 : BitVec 32 := Scalar.muli v149 c512_i32_115
  let c0_i32_118 : BitVec 32 := 0#32
  ![v156.toNat, 0]
-- ==== ReferenceIdeal.lean ====
abbrev S2048x256 : Shape := ⟨2, ![2048, 256]⟩
abbrev S256x512 : Shape := ⟨2, ![256, 512]⟩
abbrev S2048x512 : Shape := ⟨2, ![2048, 512]⟩

abbrev nBuf : Space → Nat
  | .hbm => 6
  | .vmem => 0
  | .smem => 0
  | _ => 0

abbrev bufTy : (tb : Table) → Fin (tcTables nBuf tb) → BufTy
  | .hbm, ⟨0, _⟩ => ⟨S2048x256, .f32⟩
  | .hbm, ⟨1, _⟩ => ⟨S256x512, .f32⟩
  | .hbm, ⟨2, _⟩ => ⟨S2048x256, .bf16⟩
  | .hbm, ⟨3, _⟩ => ⟨S256x512, .bf16⟩
  | .hbm, ⟨4, _⟩ => ⟨S2048x512, .f32⟩
  | .hbm, ⟨5, _⟩ => ⟨S2048x512, .bf16⟩
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proof.Proto.lean ====
/-
  The protocol of the gathering matrix product: its cells, what each landing hands over, what each device owes.

  Four devices, a row block of `A` and a copy of `B` on each. Device `c` addresses the devices `c + 1`, `c + 2`, `c + 3`
  (mod 4). Per device:

  * the BARRIER cell waits for three units, one from each other device. The unit of duty `j` comes from the device
    `c + (j + 1)`, which hands over slot `j` of its landing buffer (any contents) and the fact that its receive cell `j` is
    at round 0: what `c`'s copy number `j`, which goes to that device, needs;
  * the SEND cell `j` waits for the credit of `c`'s own copy number `j`, which hands back the share of the narrowed row
    block that the copy reads;
  * the RECEIVE cell `j` waits for the credit of the copy number `j` of device `c - (j + 1)`, which hands over slot `j` of
    `c`'s landing buffer, reading as that device's narrowed row block.

  The local copies (the two arguments in, the four row blocks of the result out) are on DMA semaphores that one device
  alone touches: they need no duty.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.ShareLeaves
public import Idealize.ShloMosaic.Lib.Tactic

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The algebra: the launch's own component, the protocol's (three duties a round), the local copies' counters -/

/-- The protocol's resources: rounds of up to three duties on each cell. -/
abbrev UB : Type := URounds (GSem nD τ sig) (Fin 3)
/-- All resources: those of kernel calls, and the protocol's. -/
abbrev UU : Type := UR sig nD τ × (UB × Counters)

local notation "𝕄" => MT nD τ sig Unit (Elt F) ℕ UU ℕ

/-- Where the resources of kernel calls lie among all, -/
abbrev EP : Emb (UR sig nD τ) (MT nD τ sig Unit (Elt F) ℕ UU ℕ) := embL
/-- and where the protocol's lie. -/
abbrev EX : Emb (UB × Counters) (MT nD τ sig Unit (Elt F) ℕ UU ℕ) := embR
/-- Where the protocol's component lies in the machine's algebra. -/
def ER : Emb UB (MT nD τ sig Unit (Elt F) ℕ UU ℕ) := (Emb.inl : Emb UB (UB × Counters)).trans EX
/-- The rounds lie in the part of the resources that updates may change. -/
instance ER_landsIn : (ER : Emb UB (MT nD τ sig Unit (Elt F) ℕ UU ℕ)).LandsIn (upEmb : UEmb _ (MT nD τ sig Unit (Elt F) ℕ UU ℕ)) := by
  unfold ER EX embR; infer_instance

variable (m : (ℓ : Loc nD τ sig) → Buf (Elt F) ℓ)

/-! ## The devices -/

/-- The device `k` places after `c`. -/
def far (k : ℕ) (c : Dev nD) : Dev nD := ⟨(c.val + k) % 4, Nat.mod_lt _ (by decide)⟩

/-- `j + 1` devices on and `3 - j` more is once around the ring, -/
theorem far_far (j : Fin 3) (c : Dev nD) : far (3 - j.val) (far (j.val + 1) c) = c := by revert j c; decide
/-- in either order. -/
theorem far_far' (j : Fin 3) (c : Dev nD) : far (j.val + 1) (far (3 - j.val) c) = c := by revert j c; decide

/-- Going `j + 1` places on, as a rearrangement of the devices. -/
def turn (j : Fin 3) : Dev nD ≃ Dev nD := ⟨far (j.val + 1), far (3 - j.val), far_far j, far_far' j⟩

/-- The device that the first signal names is one further on, -/
theorem dev1_eq (c : Dev nD) : (⟨k0_dev1 c, k0_dev1_lt c⟩ : Dev nD) = far 1 c := by revert c; decide +kernel
/-- that of the second two, -/
theorem dev2_eq (c : Dev nD) : (⟨k0_dev2 c, k0_dev2_lt c⟩ : Dev nD) = far 2 c := by revert c; decide +kernel
/-- that of the third three; -/
theorem dev3_eq (c : Dev nD) : (⟨k0_dev3 c, k0_dev3_lt c⟩ : Dev nD) = far 3 c := by revert c; decide +kernel
/-- and the device that the first copy names is one further on, -/
theorem dev4_eq (c : Dev nD) : (⟨k0_dev4 c, k0_dev4_lt c⟩ : Dev nD) = far 1 c := by revert c; decide +kernel
/-- that of the second two, -/
theorem dev5_eq (c : Dev nD) : (⟨k0_dev5 c, k0_dev5_lt c⟩ : Dev nD) = far 2 c := by revert c; decide +kernel
/-- that of the third three. -/
theorem dev6_eq (c : Dev nD) : (⟨k0_dev6 c, k0_dev6_lt c⟩ : Dev nD) = far 3 c := by revert c; decide +kernel

/-! ## The buffers and cells -/

/-- The narrowed row block, which the copies between devices read. -/
abbrev aM : Memref sig .tc .vmem S512x256 .bf16 := Memref.whole cc0_scratch2
/-- The landing buffer of three slots. -/
abbrev commM : Memref sig .tc .vmem S3x512x256 .bf16 := Memref.whole cc0_scratch4

/-- A slot lies within the landing buffer. -/
theorem slot_inb : ∀ (j : Fin 3) (a : Fin 3), (![j.val, 0, 0] : Fin 3 → Nat) a + S1x512x256.size a ≤ S3x512x256.size a := by decide
/-- Slot `j` of the landing buffer, as the kernel spells it. -/
abbrev slotM (j : Fin 3) : Memref sig .tc .vmem S512x256 .bf16 :=
  (commM.slice (Rect.unit (s := S3x512x256) ![j.val, 0, 0] S1x512x256.size (slot_inb j)) (fun _ => rfl)).squeeze S512x256 squeezes_S1x512x256_S512x256

/-- The barrier semaphore, -/
abbrev barS : Sem sig := (SemArray.scalar (sig.barrier 0 rfl) : Sems sig S_).sem
/-- the send semaphores, -/
abbrev sndS (j : Fin 3) : DmaSem sig := ⟨2 + j.val, by have := j.isLt; show 2 + j.val < 12; omega⟩
/-- and the receive semaphores. -/
abbrev rcvS (j : Fin 3) : DmaSem sig := ⟨5 + j.val, by have := j.isLt; show 5 + j.val < 12; omega⟩

/-- Device `c`'s barrier cell, -/
abbrev barCell (c : Dev nD) : GSem nD τ sig := ((c : Thread nD τ), .reg barS)
/-- its send cells, -/
abbrev sndCell (j : Fin 3) (c : Dev nD) : GSem nD τ sig := ((c : Thread nD τ), .dma (sndS j))
/-- and its receive cells. -/
abbrev rcvCell (j : Fin 3) (c : Dev nD) : GSem nD τ sig := ((c : Thread nD τ), .dma (rcvS j))

/-- The credit of a copy of a row block. -/
abbrev N : ℕ := (aM : Memref sig .tc .vmem S512x256 .bf16).view.dmaCredit
/-- A row block's credit is not zero. -/
theorem N_pos : 0 < N := View.dmaCredit_pos _ (by decide)
/-- Every slot has that credit, -/
theorem N_slot (j : Fin 3) : (slotM j).view.dmaCredit = N := by fin_cases j <;> rfl
/-- as the amount on a receive semaphore too. -/
theorem N_slot' (j : Fin 3) : (slotM j).view.amount (.dma (rcvS j)) = N := by fin_cases j <;> rfl

/-- What a DMA semaphore is in the protocol: a send cell (`false`), a receive cell (`true`), or neither. -/
def chan (q : DmaSem sig) : Option (Bool × Fin 3) :=
  match q.val with
  | 2 => some (false, 0) | 3 => some (false, 1) | 4 => some (false, 2)
  | 5 => some (true, 0) | 6 => some (true, 1) | 7 => some (true, 2)
  | _ => none
/-- A send semaphore is read as one, -/
theorem chan_snd : ∀ j : Fin 3, chan (sndS j) = some (false, j) := by decide
/-- and a receive semaphore as one. -/
theorem chan_rcv : ∀ j : Fin 3, chan (rcvS j) = some (true, j) := by decide

/-! ## Contents -/

/-- The row block of device `c`, narrowed: what the kernel stores and copies. -/
def aB (c : Dev nD) : Buf (Elt F) ((c : Thread nD τ).loc cc0_scratch2) := k0_pay1 (m ((c : Thread nD τ).loc main_arg0))
/-- Device `c`'s copy of the second factor, narrowed. -/
def bB (c : Dev nD) : Buf (Elt F) ((c : Thread nD τ).loc cc0_scratch3) := k0_pay2 (m ((c : Thread nD τ).loc main_arg1))

/-- Slot `j` of device `c`'s landing buffer, held whole at `f`. -/
def slotPts (c : Dev nD) (j : Fin 3) (f : Buf (Elt F) ((slotM j).view.loc (c : Thread nD τ))) : sProp 𝕄 :=
  (slotM j).view.loc (c : Thread nD τ) ↦[(slotM j).view.set]{fullShare} f
/-- A quarter of device `c`'s narrowed row block: three are lent to the copies, one stays for the loads. -/
def aPts (c : Dev nD) (i : Fin 4) : sProp 𝕄 :=
  (aM : Memref sig .tc .vmem S512x256 .bf16).view.loc (c : Thread nD τ) ↦[(aM : Memref sig .tc .vmem S512x256 .bf16).view.set]{ShareLeaves.leaf 2 fullShare i} aB m c

/-- What the unit of duty `j` on `c`'s barrier cell hands over: slot `j` of the device `j + 1` places on, and that its
    receive cell `j` is at round 0. -/
def barPay (c : Dev nD) (j : Fin 3) : sProp 𝕄 :=
  iprop((∃ f, slotPts (far (j.val + 1) c) j f) ∗ reached ER (rcvCell j (far (j.val + 1) c)) 0)
/-- What the landing on `c`'s receive cell `j` hands over: the slot, reading as the sender's narrowed row block. -/
def rcvPay (c : Dev nD) (j : Fin 3) : sProp 𝕄 :=
  iprop(∃ f, ⌜(slotM j).view.read (Elt F) f = aB m (far (3 - j.val) c)⌝ ∗ slotPts c j f)
/-- What the completion on `c`'s send cell `j` hands back. -/
def sndPay (c : Dev nD) (j : Fin 3) : sProp 𝕄 := aPts m c j.castSucc

/-! ## The schedule -/

/-- One round on each cell: three duties of a unit each on a barrier cell, one of the copy's credit on a send or a
    receive cell. -/
def sched : Rounds.Schedule (GSem nD τ sig) (Fin 3) 𝕄 where
  duties g r := if r = 0 ∧ g.1.2 = .tc then
    (match g.2 with | .reg _ => Finset.univ | .dma q => if (chan q).isSome then {0} else ∅) else ∅
  unitless _ := False
  amount g _ _ := match g.2 with | .reg _ => 1 | .dma _ => N
  payload g _ d := match g.2 with
    | .reg _ => barPay g.1.1 d
    | .dma q => match chan q with
      | some (false, j) => sndPay m g.1.1 j
      | some (true, j) => rcvPay m g.1.1 j
      | none => iprop(emp)
  amount_pos g _ _ _ := by
    rcases g with ⟨t, s | q⟩
    · exact Nat.one_pos
    · exact N_pos

/-- Every payload may be kept in a cell's invariant. -/
instance sched_storable (g : GSem nD τ sig) (r : ℕ) (d : Fin 3) :
    BI.Storable (upEmb : UEmb _ 𝕄) ((sched (F := F) m).payload g r d) := by
  show BI.Storable upEmb (match g.2 with
    | .reg _ => barPay g.1.1 d
    | .dma q => match chan q with
      | some (false, j) => sndPay m g.1.1 j
      | some (true, j) => rcvPay m g.1.1 j
      | none => iprop(emp))
  unfold barPay rcvPay sndPay aPts slotPts
  (repeat' split) <;> infer_instance

section Tables
variable (c : Dev nD) (j : Fin 3)

/-- A barrier cell has three duties, -/
theorem duties_bar : (sched (F := F) m).duties (barCell c) 0 = Finset.univ := rfl
/-- a send cell one, -/
theorem duties_snd : (sched (F := F) m).duties (sndCell j c) 0 = {0} := by fin_cases j <;> rfl
/-- a receive cell one, -/
theorem duties_rcv : (sched (F := F) m).duties (rcvCell j c) 0 = {0} := by fin_cases j <;> rfl
/-- and no cell has any after its first round. -/
theorem duties_later (g : GSem nD τ sig) : ∀ r, 1 ≤ r → (sched (F := F) m).duties g r = ∅ :=
  fun r hr => if_neg fun h => by omega

/-- A signal of the barrier counts one, -/
theorem amount_bar (d : Fin 3) : (sched (F := F) m).amount (barCell c) 0 d = 1 := rfl
/-- a copy away a row block's credit, -/
theorem amount_snd (d : Fin 3) : (sched (F := F) m).amount (sndCell j c) 0 d = N := rfl
/-- and a copy that lands the same. -/
theorem amount_rcv (d : Fin 3) : (sched (F := F) m).amount (rcvCell j c) 0 d = N := rfl

/-- What each duty hands over: on a barrier cell a slot to copy into, -/
theorem payload_bar (d : Fin 3) : (sched (F := F) m).payload (barCell c) 0 d = barPay c d := rfl
/-- on a send cell the quarter that was lent to the copy, -/
theorem payload_snd (d : Fin 3) : (sched (F := F) m).payload (sndCell j c) 0 d = sndPay m c j := by
  show (match chan (sndS j) with | some (false, j) => sndPay m c j | some (true, j) => rcvPay m c j | none => iprop(emp)) = _
  rw [chan_snd]
/-- on a receive cell the slot with the row block in it. -/
theorem payload_rcv (d : Fin 3) : (sched (F := F) m).payload (rcvCell j c) 0 d = rcvPay m c j := by
  show (match chan (rcvS j) with | some (false, j) => sndPay m c j | some (true, j) => rcvPay m c j | none => iprop(emp)) = _
  rw [chan_rcv]

/-- A barrier cell is waited for until three units are there, -/
theorem expect_bar : (sched (F := F) m).expect (barCell c) 0 = 3 := by
  unfold Schedule.expect Schedule.amountOf
  rw [duties_bar, Finset.sum_congr rfl fun d _ => amount_bar m c d]; rfl
/-- a send cell until a row block's credit is, -/
theorem expect_snd : (sched (F := F) m).expect (sndCell j c) 0 = N := by
  unfold Schedule.expect Schedule.amountOf; rw [duties_snd, Finset.sum_singleton, amount_snd]
/-- and a receive cell likewise. -/
theorem expect_rcv : (sched (F := F) m).expect (rcvCell j c) 0 = N := by
  unfold Schedule.expect Schedule.amountOf; rw [duties_rcv, Finset.sum_singleton, amount_rcv]

/-- All of the barrier cell's round: the three other devices' slots. -/
theorem rest_bar : bigSep ((sched (F := F) m).duties (barCell c) 0 \ ∅) (fun d => (sched (F := F) m).payload (barCell c) 0 d)
    = iprop(barPay c 0 ∗ barPay c 1 ∗ barPay c 2) := by
  rw [Finset.sdiff_empty, duties_bar, bigSep_univ_eq_bigSepL [0, 1, 2] (by decide) (by decide)]; rfl
/-- All that a wait on a send cell hands over, -/
theorem rest_snd : bigSep ((sched (F := F) m).duties (sndCell j c) 0 \ ∅) (fun d => (sched (F := F) m).payload (sndCell j c) 0 d) = sndPay m c j := by
  rw [Finset.sdiff_empty, duties_snd, bigSep_singleton, payload_snd]
/-- and all that a wait on a receive cell does. -/
theorem rest_rcv : bigSep ((sched (F := F) m).duties (rcvCell j c) 0 \ ∅) (fun d => (sched (F := F) m).payload (rcvCell j c) 0 d) = rcvPay m c j := by
  rw [Finset.sdiff_empty, duties_rcv, bigSep_singleton, payload_rcv]

end Tables

/-! ## What each device owes, and the levels -/

/-- Device `c` owes the credit of its copies, one to a receive cell of each other device, -/
def owR (c : Dev nD) : CellTallies nD τ sig Unit :=
  tallyAt (rcvCell 2 (far 3 c)) () N + tallyAt (rcvCell 1 (far 2 c)) () N + tallyAt (rcvCell 0 (far 1 c)) () N
/-- and before that a unit to each other device's barrier cell. -/
def owB (c : Dev nD) : CellTallies nD τ sig Unit :=
  owR c + tallyAt (barCell (far 3 c)) () 1 + tallyAt (barCell (far 2 c)) () 1 + tallyAt (barCell (far 1 c)) () 1

/-- Only the main cores' cells have a level. -/
def L (g : GSem nD τ sig) : Finset Unit := if g.1.2 = .tc then {()} else ∅
/-- Barrier cells at 1, receive cells at 2, every other cell at 0: a device waits below all that it owes. -/
def lv (g : GSem nD τ sig) (_ : Unit) : ℕ :=
  match g.2 with
  | .reg _ => 1
  | .dma q => match chan q with | some (true, _) => 2 | _ => 0

/-- No other cell has one. -/
theorem L_of_ne (g : GSem nD τ sig) (h : g.1.2 ≠ .tc) : L g = ∅ := if_neg h
/-- A main core's cell has one. -/
theorem L_tc (c : Dev nD) (sm : SemLoc sig) : L ((c : Thread nD τ), sm) = {()} := if_pos rfl
/-- The level of a receive cell. -/
theorem lv_rcv (j : Fin 3) (c : Dev nD) : lv (rcvCell j c) () = 2 := by
  show (match chan (rcvS j) with | some (true, _) => 2 | _ => 0) = 2
  rw [chan_rcv]

/-- What a device owes after its signals is owed to receive cells. -/
theorem owR_pos {c : Dev nD} {g : GSem nD τ sig} {u : Unit} (h : 0 < owR c g u) : ∃ j d, g = rcvCell j d := by
  unfold owR at h
  rw [Pi.add_apply, Finsupp.add_apply, Pi.add_apply, Finsupp.add_apply, tallyAt_apply, tallyAt_apply, tallyAt_apply] at h
  by_contra hn
  rw [if_neg (fun h' => hn ⟨_, _, h'.1⟩), if_neg (fun h' => hn ⟨_, _, h'.1⟩), if_neg (fun h' => hn ⟨_, _, h'.1⟩)] at h
  exact Nat.lt_irrefl 0 h

/-- After its signals a device may wait on any cell of level at most 1: its barrier cell, its local copies'. -/
theorem mayWait_owR (c : Dev nD) (sm : SemLoc sig) (hsm : lv ((c : Thread nD τ), sm) () ≤ 1) :
    (levAts L lv : sProp 𝕄) ⊢ MayWait (c : Thread nD τ) sm () (owR c) :=
  MayOwe.of_cut (L := L) (lev := lv) 1 (fun p hp => by rw [Finset.mem_singleton.mp hp, L_tc]; exact Finset.mem_singleton_self _)
    (fun g u hg => by obtain ⟨j, d, rfl⟩ := owR_pos hg; rw [L_tc]; exact Finset.mem_singleton_self _)
    (fun p hp => by rw [Finset.mem_singleton.mp hp]; exact hsm)
    (fun g u hg => by obtain ⟨j, d, rfl⟩ := owR_pos hg; rw [lv_rcv]; decide)

end Cert.Gather

end
-- ==== Proof.Body.lean ====
/-
  The body of the gathering matrix product on one device: the protocol's steps as rules, then the run.
-/
module

public import proofs.«01_k».proof.Proof.Proto

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (m : (ℓ : Loc nD τ sig) → Buf (Elt F) ℓ)

/-- No loop of the kernel needs a variant. -/
abbrev 𝒱₀ : Variants := Variants.none

/-! ## The cells together -/

/-- The seven protocol cells of a device: its barrier cell, its send cells, its receive cells. -/
abbrev csem (k : Fin 7) : SemLoc sig :=
  if k = 0 then .reg barS else .dma ⟨k.val + 1, by have := k.isLt; show k.val + 1 < 12; omega⟩
/-- The cell of semaphore `ck.2` on device `ck.1`. -/
abbrev kcell (ck : Dev nD × Fin 7) : GSem nD τ sig := ((ck.1 : Thread nD τ), csem ck.2)
/-- Which of the seven the send cell `j` is, and the receive cell `j`. -/
abbrev kS (j : Fin 3) : Fin 7 := ⟨1 + j.val, by omega⟩
/-- The number of receive semaphore `j` among the seven. -/
abbrev kR (j : Fin 3) : Fin 7 := ⟨4 + j.val, by omega⟩
/-- Number `kS j` is send cell `j`. -/
theorem kcell_snd (j : Fin 3) (c : Dev nD) : kcell (c, kS j) = sndCell j c := by fin_cases j <;> rfl
/-- Number `kR j` is receive cell `j`. -/
theorem kcell_rcv (j : Fin 3) (c : Dev nD) : kcell (c, kR j) = rcvCell j c := by fin_cases j <;> rfl

/-- What is known of a cell throughout: its invariant, under the name `K` gives it, and that it is at round 0. -/
def known (K : Dev nD × Fin 7 → ℕ) (ck : Dev nD × Fin 7) : sProp 𝕄 :=
  iprop(cellInv ER (sched (F := F) m) (K ck) (kcell ck) ∗ reached ER (kcell ck) 0)
/-- What is known of a cell may be used any number of times. -/
instance known_persistent (K : Dev nD × Fin 7 → ℕ) (ck : Dev nD × Fin 7) : BI.Persistent (known (F := F) m K ck) := by
  unfold known; infer_instance
/-- That of every cell of every device. -/
def records (K : Dev nD × Fin 7 → ℕ) : sProp 𝕄 := bigSep Finset.univ (known (F := F) m K)
/-- So may what is known of all cells. -/
instance records_persistent (K : Dev nD × Fin 7 → ℕ) : BI.Persistent (records (F := F) m K) := by unfold records; infer_instance

/-- What is known of one cell, out of what is known of all. -/
theorem records_at (K : Dev nD × Fin 7 → ℕ) (ck : Dev nD × Fin 7) :
    records (F := F) m K ⊢ iprop(cellInv ER (sched (F := F) m) (K ck) (kcell ck) ∗ reached ER (kcell ck) 0) :=
  show records (F := F) m K ⊢ known m K ck from BI.bigSep_elim (Finset.mem_univ ck)
/-- The same for a send cell, -/
theorem records_snd (K : Dev nD × Fin 7 → ℕ) (j : Fin 3) (c : Dev nD) :
    records (F := F) m K ⊢ iprop(cellInv ER (sched (F := F) m) (K (c, kS j)) (sndCell j c) ∗ reached ER (sndCell j c) 0) := by
  have h := records_at m K (c, kS j); rwa [kcell_snd] at h
/-- for a receive cell, -/
theorem records_rcv (K : Dev nD × Fin 7 → ℕ) (j : Fin 3) (c : Dev nD) :
    records (F := F) m K ⊢ iprop(cellInv ER (sched (F := F) m) (K (c, kR j)) (rcvCell j c) ∗ reached ER (rcvCell j c) 0) := by
  have h := records_at m K (c, kR j); rwa [kcell_rcv] at h
/-- and for a barrier cell. -/
theorem records_bar (K : Dev nD × Fin 7 → ℕ) (c : Dev nD) :
    records (F := F) m K ⊢ iprop(cellInv ER (sched (F := F) m) (K (c, 0)) (barCell c) ∗ reached ER (barCell c) 0) :=
  records_at m K (c, 0)

/-! ## The protocol's steps -/

section Steps
variable (K : Dev nD × Fin 7 → ℕ) (c n : Dev nD) (j : Fin 3) (O : CellTallies nD τ sig Unit) (W : Waits sig Unit)

/-- A unit to the barrier cell of device `n`, whose copy number `j` lands on `c`: it takes slot `j` along. -/
theorem step_signal {α : Type} {Q : α → sProp 𝕄} {k : PUnit → Prog (TpuEff nD τ sig (Elt F) Λ₀ .tc) α}
    (hn : n = far (3 - j.val) c) (f : Buf (Elt F) ((slotM j).view.loc (c : Thread nD τ))) :
    iprop(records m K ∗ owes (c : Thread nD τ) (O + tallyAt (barCell (far (3 - j.val) c)) () 1) W
        ∗ dutyTok ER (barCell (far (3 - j.val) c)) 0 j ∗ slotPts c j f)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ
              (.op (.semSignal (n : Thread nD τ) barS (1#32 : BitVec 32).toInt) k) Q) := by
  subst hn
  iintro ⟨#HR, HO, Ht, Hs⟩ Hk
  iapply (Rounds.wp_signal 𝒱₀ ER (sched m) (c : Thread nD τ) none (dst := (far (3 - j.val) c : Thread nD τ)) (κ := K (far (3 - j.val) c, 0))
      (d := j) (by rw [duties_bar]; exact Finset.mem_univ _) ((amount_bar m (far (3 - j.val) c) j).trans (by decide)) () O rfl) $$ [HO Ht Hs]
  · ihave #Hn := (records_bar m K (far (3 - j.val) c)) $$ HR
    icases Hn with ⟨#HI, #Hr⟩
    isplitr; · iexact HI
    isplitl [HO]; · iexact HO
    isplitl [Ht]; · iexact Ht
    isplitl [Hs]
    · rw [payload_bar]; unfold barPay
      rw [far_far']
      isplitl [Hs]; · iexists f; iexact Hs
      ihave #Hc := (records_rcv m K j c) $$ HR
      icases Hc with ⟨-, #Hr'⟩
      iexact Hr'
    iexact Hr
  iexact Hk

/-- The barrier wait: the slots that the copies go to. -/
theorem step_barrier {α : Type} {Q : α → sProp 𝕄} {k : PUnit → Prog (TpuEff nD τ sig (Elt F) Λ₀ .tc) α} :
    iprop(records m K ∗ levAts L lv ∗ cred (tallyAt (barCell c) () 3) ∗ owes (c : Thread nD τ) (owR c) W ∗ atPos ER (barCell c) 0 ∅ 0)
      ⊢ iprop(((owes (c : Thread nD τ) (owR c) (insert (SemLoc.reg barS, ()) W) ∗ atPos ER (barCell c) 1 ∅ 0
            ∗ (∃ f, slotPts (far 1 c) 0 f) ∗ (∃ f, slotPts (far 2 c) 1 f) ∗ (∃ f, slotPts (far 3 c) 2 f))
          -∗ wp frame (wpE (defs₀ (F := F)) 𝒱₀ (c : Thread nD τ) none) Set.univ (k ⟨⟩) Q)
          -∗ wp frame (wpE (defs₀ (F := F)) 𝒱₀ (c : Thread nD τ) none) Set.univ
              (.op (.semWait barS (3#32 : BitVec 32).toNat) k) Q) := by
  iintro ⟨#HR, #HL, Hc, HO, Hat⟩ Hk
  ihave #Hn := (records_bar m K c) $$ HR
  icases Hn with ⟨#HI, #Hr⟩
  iapply (Rounds.wp_wait_rest_token 𝒱₀ ER (sched m) (c : Thread nD τ) none (κ := K (c, 0))
      (wpE_semWait_eq 𝒱₀ (c : Thread nD τ) none Set.univ) (Set.mem_univ _) () (O := owR c) (W := W) (R := 0) (m := 0) (T := ∅)
      (by rw [expect_bar]; decide)) $$ [Hc HO Hat]
  · isplitr; · iexact HI
    isplitl [Hc]; · iexact Hc
    isplitl [HO]; · iexact HO
    isplitr; · iapply (mayWait_owR c (.reg barS) (Nat.le_refl 1)); iexact HL
    iexact Hat
  iintro ⟨HO, Hat, -, Hpay⟩
  ihave Hp := (Entails.of_eq (rest_bar m c)) $$ Hpay
  unfold barPay
  icases Hp with ⟨⟨H0, -⟩, ⟨H1, -⟩, ⟨H2, -⟩⟩
  iapply Hk
  isplitl [HO]; · iexact HO
  isplitl [Hat]; · iexact Hat
  isplitl [H0]; · iexact H0
  isplitl [H1]; · iexact H1
  iexact H2

/-- Copy number `j`: `c`'s narrowed row block to slot `j` of the device `n`, `j + 1` places on. -/
theorem step_send {α : Type} {Q : α → sProp 𝕄} {k : PUnit → Prog (TpuEff nD τ sig (Elt F) Λ₀ .tc) α}
    (hn : n = far (j.val + 1) c) {hsc : (slotM j : Memref sig (Dev.tc n : Thread nD τ).2.kind .vmem S512x256 .bf16).view.ref.isScScratch = false}
    {hsrc : (aM : Memref sig .tc .vmem S512x256 .bf16).view.WordExact} {hdst : (slotM j : Memref sig .tc .vmem S512x256 .bf16).view.WordExact}
    {hsem : DmaTarget.Typed .vmem (.dma (rcvS j)) (.remote (Dev.tc n : Thread nD τ) (slotM j : Memref sig .tc .vmem S512x256 .bf16) (.dma (sndS j)) hsc)}
    (fn : Buf (Elt F) ((slotM j).view.loc (far (j.val + 1) c : Thread nD τ))) :
    iprop(records m K ∗ aPts m c j.castSucc ∗ slotPts (far (j.val + 1) c) j fn
        ∗ owes (c : Thread nD τ) (O + tallyAt (rcvCell j (far (j.val + 1) c)) () N) W
        ∗ dutyTok ER (sndCell j c) 0 0 ∗ dutyTok ER (rcvCell j (far (j.val + 1) c)) 0 0)
      ⊢ iprop(((cred (tallyAt (sndCell j c) () N) ∗ owes (c : Thread nD τ) O W)
          -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma aM (.remote (Dev.tc n : Thread nD τ) (slotM j) (.dma (sndS j)) hsc) (.dma (rcvS j)) hsrc hdst hsem) k) Q) := by
  subst hn
  iintro ⟨#HR, Ha, Hs, HO, HtS, HtR⟩ Hk
  ihave #H1 := (records_snd m K j c) $$ HR
  icases H1 with ⟨#HI1, #Hr1⟩
  ihave #H2 := (records_rcv m K j (far (j.val + 1) c)) $$ HR
  icases H2 with ⟨#HI2, #Hr2⟩
  unfold aPts slotPts
  iapply (Rounds.wp_send_pointsTo 𝒱₀ ER (sched m) (c : Thread nD τ) none (κ₁ := K (c, kS j)) (κ₂ := K (far (j.val + 1) c, kR j))
    (r₁ := 0) (r₂ := 0) (d₁ := 0) (d₂ := 0) (fd := fn)
    (by rw [duties_snd]; exact Finset.mem_singleton_self _) (by rw [duties_rcv]; exact Finset.mem_singleton_self _)
    () () N (N_slot' j) (amount_snd m c j 0) (amount_rcv m (far (j.val + 1) c) j 0) O rfl (W := W)
    (by rw [payload_snd]; unfold sndPay aPts; exact BI.Entails.refl _)
    (by
      rw [payload_rcv]; unfold rcvPay slotPts
      iintro H
      iexists (slotM j).view.write (Elt F) fn ((aM : Memref sig .tc .vmem S512x256 .bf16).view.read (Elt F) (aB m c)) Finset.univ
      isplitr
      · ipureintro
        rw [far_far, View.read_write_univ]
        exact View.read_whole _ _
      · iexact H)) $$ [Ha Hs HO HtS HtR]
  · isplitr; · iexact HI1
    isplitr; · iexact HI2
    isplitl [Ha]; · iexact Ha
    isplitl [Hs]; · iexact Hs
    isplitl [HO]; · iexact HO
    isplitl [HtS]; · iexact HtS
    isplitr; · iexact Hr1
    isplitl [HtR]; · iexact HtR
    iexact Hr2
  iexact Hk

/-- The wait for the landing in slot `j`: the slot, reading as the sender's narrowed row block. -/
theorem step_recv {α : Type} {Q : α → sProp 𝕄} {k : PUnit → Prog (TpuEff nD τ sig (Elt F) Λ₀ .tc) α}
    {s' : Shape} {e' : EltTy} {sp sp' : Space} {s : Shape} {e : EltTy} {src : Memref sig .tc sp' s' e'} {dst : Memref sig .tc sp s e}
    {hsrc : src.view.WordExact} {hdst : dst.view.WordExact} (hN : dst.view.dmaCredit = N) :
    iprop(records m K ∗ cred (tallyAt (rcvCell j c) () N) ∗ owes (c : Thread nD τ) 0 W ∗ atPos ER (rcvCell j c) 0 ∅ 0)
      ⊢ iprop(((owes (c : Thread nD τ) 0 (insert (SemLoc.dma (rcvS j), ()) W) ∗ atPos ER (rcvCell j c) 1 ∅ 0 ∗ rcvPay m c j)
          -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (rcvS j) src dst hsrc hdst) k) Q) := by
  iintro ⟨#HR, Hc, HO, Hat⟩ Hk
  ihave #H1 := (records_rcv m K j c) $$ HR
  icases H1 with ⟨#HI, -⟩
  iapply (Rounds.wp_wait_rest_token 𝒱₀ ER (sched m) (c : Thread nD τ) none (κ := K (c, kR j))
      (wpE_waitDma2_eq 𝒱₀ (c : Thread nD τ) none Set.univ) (Set.mem_univ _) () (O := 0) (W := W) (R := 0) (m := 0) (T := ∅)
      (by rw [Nat.zero_add, expect_rcv]; exact hN)) $$ [Hc HO Hat]
  · isplitr; · iexact HI
    isplitl [Hc]; · rw [hN]; iexact Hc
    isplitl [HO]; · iexact HO
    isplitr; · rw [MayWait_zero]; iempintro
    iexact Hat
  iintro ⟨HO, Hat, -, Hpay⟩
  iapply Hk
  isplitl [HO]; · iexact HO
  isplitl [Hat]; · iexact Hat
  iapply (Entails.of_eq (rest_rcv m c j)) $$ Hpay

/-- The wait for the completion of copy number `j`: the quarter of the row block that it read. -/
theorem step_sent {α : Type} {Q : α → sProp 𝕄} {k : PUnit → Prog (TpuEff nD τ sig (Elt F) Λ₀ .tc) α}
    {s' : Shape} {e' : EltTy} {sp sp' : Space} {s : Shape} {e : EltTy} {src : Memref sig .tc sp' s' e'} {dst : Memref sig .tc sp s e}
    {hsrc : src.view.WordExact} {hdst : dst.view.WordExact} (hN : dst.view.dmaCredit = N) :
    iprop(records m K ∗ cred (tallyAt (sndCell j c) () N) ∗ owes (c : Thread nD τ) 0 W ∗ atPos ER (sndCell j c) 0 ∅ 0)
      ⊢ iprop(((owes (c : Thread nD τ) 0 (insert (SemLoc.dma (sndS j), ()) W) ∗ atPos ER (sndCell j c) 1 ∅ 0 ∗ aPts m c j.castSucc)
          -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (sndS j) src dst hsrc hdst) k) Q) := by
  iintro ⟨#HR, Hc, HO, Hat⟩ Hk
  ihave #H1 := (records_snd m K j c) $$ HR
  icases H1 with ⟨#HI, -⟩
  iapply (Rounds.wp_wait_rest_token 𝒱₀ ER (sched m) (c : Thread nD τ) none (κ := K (c, kS j))
      (wpE_waitDma2_eq 𝒱₀ (c : Thread nD τ) none Set.univ) (Set.mem_univ _) () (O := 0) (W := W) (R := 0) (m := 0) (T := ∅)
      (by rw [Nat.zero_add, expect_snd]; exact hN)) $$ [Hc HO Hat]
  · isplitr; · iexact HI
    isplitl [Hc]; · rw [hN]; iexact Hc
    isplitl [HO]; · iexact HO
    isplitr; · rw [MayWait_zero]; iempintro
    iexact Hat
  iintro ⟨HO, Hat, -, Hpay⟩
  iapply Hk
  isplitl [HO]; · iexact HO
  isplitl [Hat]; · iexact Hat
  ihave Hp := (Entails.of_eq (rest_snd m c j)) $$ Hpay
  unfold sndPay
  iexact Hp

/-- A protocol cell past its one round closes: its counter stands at zero. -/
theorem step_close (ck : Dev nD × Fin 7) :
    iprop(records m K ∗ atPos ER (kcell ck) 1 ∅ 0) ⊢ iprop(|={Set.univ}=> semVal (kcell ck) 0) := by
  iintro ⟨#HR, Hat⟩
  ihave #H1 := (records_at m K ck) $$ HR
  icases H1 with ⟨#HI, -⟩
  imod (Rounds.cell_close ER (sched m) (Set.mem_univ (K ck)) (fun h => h) (R := 0 + 1) (duties_later m (kcell ck))) $$ [Hat] with Hz
  · isplitr; · iexact HI
    iexact Hat
  imodintro
  iexact Hz

end Steps
end Cert.Gather
end
-- ==== Proof.Run.lean ====
/-
  The run of the kernel's body on one device.
-/
module

public import proofs.«01_k».proof.Proof.Body
public import Idealize.ShloMosaic.Lib.Pipeline.Value

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (m : (ℓ : Loc nD τ sig) → Buf (Elt F) ℓ)

/-! ## The row blocks of the result -/

/-- A row block lies within the result. -/
theorem win_inb (o : Dev nD) : ∀ a : Fin 2, (![512 * o.val, 0] : Fin 2 → Nat) a + S512x512.size a ≤ S2048x512.size a := by
  revert o; decide
/-- The 512 rows at row `off 0` of the result. -/
abbrev rows (off : Fin 2 → Nat) (h : ∀ a, off a + S512x512.size a ≤ S2048x512.size a) : Memref sig .tc .hbm S512x512 .bf16 :=
  (Memref.whole main_v1).slice (Rect.unit (s := S2048x512) off S512x512.size h) (fun _ => rfl)
/-- Row block `o` of the result: what the row block of device `o` makes. -/
abbrev winM (o : Dev nD) : Memref sig .tc .hbm S512x512 .bf16 := rows ![512 * o.val, 0] (win_inb o)

/-- The rows from equal offsets are the same window. -/
theorem rows_eq {off off' : Fin 2 → Nat} (e : off = off') (h) (h') : rows off h = rows off' h' := by subst e; rfl
/-- The kernel's offset of its own row block, -/
theorem off_own (c : Dev nD) : k0_off1 c = ![512 * c.val, 0] := k0_off1_eq c
/-- of the row block from one device back, -/
theorem off_1 (c : Dev nD) : k0_off2 c 1#32 = ![512 * (far 3 c).val, 0] := by revert c; decide +kernel
/-- from two devices back, -/
theorem off_2 (c : Dev nD) : k0_off2 c 2#32 = ![512 * (far 2 c).val, 0] := by revert c; decide +kernel
/-- and from three devices back. -/
theorem off_3 (c : Dev nD) : k0_off2 c 3#32 = ![512 * (far 1 c).val, 0] := by revert c; decide +kernel

/-- A memref's elements on device `c`, held whole at `f`. -/
def winPts (c : Dev nD) (v : Memref sig .tc .hbm S512x512 .bf16) (f : Buf (Elt F) (v.view.loc (c : Thread nD τ))) : sProp 𝕄 :=
  v.view.loc (c : Thread nD τ) ↦[v.view.set]{fullShare} f
/-- A buffer on device `c`, held whole at `f`. -/
def bufPts (c : Dev nD) (b : Ref sig .tc) (f : Buf (Elt F) ((c : Thread nD τ).loc b)) : sProp 𝕄 :=
  (Memref.whole b).view.loc (c : Thread nD τ) ↦[Finset.univ]{fullShare} f
/-- A DMA semaphore's counter on device `c`, at zero. -/
abbrev zero (c : Dev nD) (q : DmaSem sig) : sProp 𝕄 := semVal ((c : Thread nD τ), SemLoc.dma q) 0

/-- The narrowed row block, held whole, is its four quarters. -/
theorem quarters (c : Dev nD) : bufPts c cc0_scratch2 (aB m c) = iprop(aPts m c 0 ∗ aPts m c 1 ∗ aPts m c 2 ∗ aPts m c 3) := by
  have h : bufPts c cc0_scratch2 (aB m c) = bigSep Finset.univ fun i : Fin 4 => aPts m c i := by
    unfold bufPts aPts
    rw [show (aM : Memref sig .tc .vmem S512x256 .bf16).view.set = Finset.univ from View.set_whole _]
    exact ShareLeaves.pointsTo_leaves _ _ 2 fullShare
  exact h.trans (bigSep_univ_eq_bigSepL [0, 1, 2, 3] (by decide) (by decide) (fun i : Fin 4 => aPts m c i))

/-- The offset of a whole matrix is zero on both axes. -/
theorem hz2 : (![0, 0] : Fin 2 → Nat) = fun _ => 0 := funext fun a => by fin_cases a <;> rfl

/-- What is left in a buffer that one store fills is the store's value. -/
theorem stored_a (f w : (cc0_scratch2 : Ref sig .tc).ty.Contents (Elt F)) :
    (Memref.whole cc0_scratch2).view.writes (Elt F) f [⟨Rect.unit (s := S512x256) ![0, 0] S512x256.size inb_S512x256_S512x256_0_0, w⟩] = w := by
  rw [View.writes_cons, View.writes_nil]
  exact Memref.write_access_unit_zero_univ (Elt F) cc0_scratch2 hz2 inb_S512x256_S512x256_0_0 f w
/-- The same for the second factor. -/
theorem stored_b (f w : (cc0_scratch3 : Ref sig .tc).ty.Contents (Elt F)) :
    (Memref.whole cc0_scratch3).view.writes (Elt F) f [⟨Rect.unit (s := S256x512) ![0, 0] S256x512.size inb_S256x512_S256x512_0_0, w⟩] = w := by
  rw [View.writes_cons, View.writes_nil]
  exact Memref.write_access_unit_zero_univ (Elt F) cc0_scratch3 hz2 inb_S256x512_S256x512_0_0 f w

/-- A load of slot `j` of the landing buffer stays within the slot. -/
theorem slot_access (j : Fin 3) (h : ∀ a, (![j.val, 0, 0] : Fin 3 → Nat) a + S1x512x256.size a ≤ S3x512x256.size a) :
    ((Memref.whole cc0_scratch4).access (Rect.unit (s := S3x512x256) ![j.val, 0, 0] S1x512x256.size h)).set ⊆ (slotM j).view.set :=
  (View.set_reshape _ _).ge

/-! ## Contents -/

/-- What a row block makes: its product with the second factor, summed in 32 bits and narrowed. -/
def prod (a : FVec F S512x256 .bf16) (b : FVec F S256x512 .bf16) : FVec F S512x512 .bf16 :=
  truncf .bf16 (matmul dot_S512x256_S256x512_S512x512_1_0_0_1_n_n none a b (constant S512x512 .f32 0x00000000#32)) bitsLt_bf16_f32

/-- A slot of the landing buffer, loaded through the whole buffer and reshaped, is what the slot reads as. -/
theorem slot_load (j : Fin 3) (h : ∀ a, (![j.val, 0, 0] : Fin 3 → Nat) a + S1x512x256.size a ≤ S3x512x256.size a) (f : (cc0_scratch4 : Ref sig .tc).ty.Contents (Elt F)) :
    shapeCast S512x256 ((Memref.whole cc0_scratch4).view.readAt (Elt F) (Rect.unit (s := S3x512x256) ![j.val, 0, 0] S1x512x256.size h).toLoadRect f) shapeCasts_S1x512x256_S512x256
      = (slotM j).view.read (Elt F) f :=
  (Memref.read_squeeze_slice (Memref.whole cc0_scratch4) _ _ _ _ f).symm

/-- A load at the rectangle of the last of several stores is that store's value. -/
theorem load_last {κ : Kind} {sp : Space} {s : Shape} {e : EltTy} (v : View sig κ sp s e) (f : v.ty.Contents (Elt F)) (r : Rect s) (w : r.shape.Idx → Elt F e)
    (L : List (View.Piece (Elt F) s e)) : v.readAt (Elt F) r.toLoadRect (v.writes (Elt F) f (⟨r, w⟩ :: L)) = w :=
  funext fun x => View.read_writes_cons_emb v f r w L x

/-- A slot of the staging buffer, read through its squeezed view after the slot's own store was the last of several. -/
theorem staged (off : Fin 3 → Nat) (h : ∀ a, off a + S1x512x512.size a ≤ S4x512x512.size a) (h1 : ∀ a, (Rect.unit (s := S4x512x512) off S1x512x512.size h).stride a = 1)
    (f : (cc0_scratch5 : Ref sig .tc).ty.Contents (Elt F)) (w : FVec F S512x512 .bf16) (L) :
    (((Memref.whole cc0_scratch5).slice (Rect.unit (s := S4x512x512) off S1x512x512.size h) h1).squeeze S512x512 squeezes_S1x512x512_S512x512).view.read (Elt F)
        ((Memref.whole cc0_scratch5).view.writes (Elt F) f (⟨Rect.unit (s := S4x512x512) off S1x512x512.size h, shapeCast S1x512x512 w shapeCasts_S512x512_S1x512x512⟩ :: L)) = w := by
  rw [Memref.read_squeeze_slice (Memref.whole cc0_scratch5) _ h1 squeezes_S1x512x512_S512x512 shapeCasts_S1x512x512_S512x512]
  rw [load_last]
  exact shapeCast_shapeCast w shapeCasts_S512x512_S1x512x512 shapeCasts_S1x512x512_S512x512

/-- Row block `o` of device `c`'s result holds what that row block makes. -/
def winDone (c o : Dev nD) : sProp 𝕄 :=
  iprop(∃ f, ⌜(winM o).view.read (Elt F) f = prod (aB m o) (bB m c)⌝ ∗ winPts c (winM o) f)

/-- A window of the result that one whole copy of `w` filled, under the kernel's name for the window. -/
theorem win_done (c o : Dev nD) {off : Fin 2 → Nat} (h) (e : off = ![512 * o.val, 0]) (f : Buf (Elt F) ((c : Thread nD τ).loc main_v1)) (w : FVec F S512x512 .bf16) (hw : w = prod (aB m o) (bB m c)) :
    ((rows off h).view.loc (c : Thread nD τ) ↦[(rows off h).view.set]{fullShare} (rows off h).view.writes (Elt F) f [⟨Rect.whole S512x512, w⟩] : sProp 𝕄)
      ⊢ winDone m c o := by
  subst e
  unfold winDone winPts
  iintro H
  iexists _
  isplitr
  · ipureintro; exact (View.read_writes_whole _ f w).trans hw
  iexact H

section Body
variable (K : Dev nD × Fin 7 → ℕ)

/-- What the body starts from: the records of all cells, its debt, its positions, the tokens of the duties it pays, its credit, the
    counters of its local copies at zero, its arguments, the result in four row blocks, and its scratch buffers. -/
def bodyPre (c : Dev nD) (W : Waits sig Unit) (fv : Buf (Elt F) ((c : Thread nD τ).loc main_v1)) (fc : Buf (Elt F) ((c : Thread nD τ).loc cc0_scratch4)) : sProp 𝕄 :=
  iprop(records m K ∗ levAts L lv
    ∗ owes (c : Thread nD τ) (owB c) W
    ∗ (atPos ER (barCell c) 0 ∅ 0 ∗ atPos ER (sndCell 0 c) 0 ∅ 0 ∗ atPos ER (sndCell 1 c) 0 ∅ 0 ∗ atPos ER (sndCell 2 c) 0 ∅ 0
      ∗ atPos ER (rcvCell 0 c) 0 ∅ 0 ∗ atPos ER (rcvCell 1 c) 0 ∅ 0 ∗ atPos ER (rcvCell 2 c) 0 ∅ 0)
    ∗ (dutyTok ER (barCell (far 3 c)) 0 0 ∗ dutyTok ER (barCell (far 2 c)) 0 1 ∗ dutyTok ER (barCell (far 1 c)) 0 2
      ∗ dutyTok ER (sndCell 0 c) 0 0 ∗ dutyTok ER (sndCell 1 c) 0 0 ∗ dutyTok ER (sndCell 2 c) 0 0
      ∗ dutyTok ER (rcvCell 0 (far 1 c)) 0 0 ∗ dutyTok ER (rcvCell 1 (far 2 c)) 0 0 ∗ dutyTok ER (rcvCell 2 (far 3 c)) 0 0)
    ∗ (cred (tallyAt (barCell c) () 3) ∗ cred (tallyAt (rcvCell 0 c) () N) ∗ cred (tallyAt (rcvCell 1 c) () N) ∗ cred (tallyAt (rcvCell 2 c) () N))
    ∗ (zero c 0 ∗ zero c 1 ∗ zero c 8 ∗ zero c 9 ∗ zero c 10 ∗ zero c 11)
    ∗ (bufPts c main_arg0 (m _) ∗ bufPts c main_arg1 (m _) ∗ winPts c (rows _ (k0_off1_inb c)) fv ∗ winPts c (rows (k0_off2 c 1#32) (k0_off2_inb c 0)) fv
      ∗ winPts c (rows (k0_off2 c 3#32) (k0_off2_inb c 2)) fv ∗ winPts c (rows (k0_off2 c 2#32) (k0_off2_inb c 1)) fv)
    ∗ ((∃ f, bufPts c cc0_scratch0 f) ∗ (∃ f, bufPts c cc0_scratch1 f) ∗ (∃ f, bufPts c cc0_scratch2 f) ∗ (∃ f, bufPts c cc0_scratch3 f)
      ∗ (slotPts c 0 fc ∗ slotPts c 1 fc ∗ slotPts c 2 fc) ∗ (∃ f, bufPts c cc0_scratch5 f)))

/-- What the body leaves: no debt, every counter at zero, the arguments as they were, each row block of the result made, and
    the scratch buffers with any contents. -/
def bodyPost (c : Dev nD) : sProp 𝕄 :=
  iprop((∃ W, owes (c : Thread nD τ) 0 W)
    ∗ (semVal (barCell c) 0 ∗ semVal (sndCell 0 c) 0 ∗ semVal (sndCell 1 c) 0 ∗ semVal (sndCell 2 c) 0
      ∗ semVal (rcvCell 0 c) 0 ∗ semVal (rcvCell 1 c) 0 ∗ semVal (rcvCell 2 c) 0)
    ∗ (zero c 0 ∗ zero c 1 ∗ zero c 8 ∗ zero c 9 ∗ zero c 10 ∗ zero c 11)
    ∗ (bufPts c main_arg0 (m _) ∗ bufPts c main_arg1 (m _) ∗ winDone m c c ∗ winDone m c (far 3 c) ∗ winDone m c (far 1 c) ∗ winDone m c (far 2 c))
    ∗ ((∃ f, bufPts c cc0_scratch0 f) ∗ (∃ f, bufPts c cc0_scratch1 f) ∗ (∃ f, bufPts c cc0_scratch2 f) ∗ (∃ f, bufPts c cc0_scratch3 f)
      ∗ ((∃ f, slotPts c 0 f) ∗ (∃ f, slotPts c 1 f) ∗ (∃ f, slotPts c 2 f)) ∗ (∃ f, bufPts c cc0_scratch5 f)))

set_option maxHeartbeats 1600000 in
/-- The body from its start to its end, on a device `c`. -/
theorem sound_body (c : Dev nD) (W) (fv) (fc) (Kt : PUnit → sProp 𝕄) :
    iprop(bodyPre m K c W fv fc ∗ (bodyPost m c -∗ Kt ⟨⟩))
      ⊢ wp frame (wpE (defs₀ (F := F)) 𝒱₀ c none) Set.univ
          (cc0_body (Memref.whole main_arg0) (Memref.isWhole_whole _) (Memref.whole main_arg1) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            cc0_scratch6 cc0_scratch7 cc0_scratch8 cc0_scratch9) Kt := by
  simp only [cc0_body_eq_skeleton]; unfold cc0_body_skel
  simp only [k0_part1_eq_skeleton, k0_part2_eq_skeleton, k0_part3_eq_skeleton, k0_part4_eq_skeleton, k0_part5_eq_skeleton, k0_part6_eq_skeleton, k0_part7_eq_skeleton, k0_part8_eq_skeleton]
  unfold k0_part1_skel k0_part2_skel k0_part3_skel k0_part4_skel k0_part5_skel k0_part6_skel k0_part7_skel k0_part8_skel
  simp only [semSignalWord, semWaitWord, Prog.lift, Prog.bind_op, Prog.bind_ret, Prog.pure_eq_ret, wp_deviceId]
  unfold bodyPre winPts bufPts
  iintro ⟨⟨#HR, #HL, HO, ⟨HpB, HpS0, HpS1, HpS2, HpR0, HpR1, HpR2⟩, ⟨HtB0, HtB1, HtB2, HtS0, HtS1, HtS2, HtR0, HtR1, HtR2⟩,
    ⟨HcB, HcR0, HcR1, HcR2⟩, ⟨Hz0, Hz1, Hz8, Hz9, Hz10, Hz11⟩, ⟨Ha0, Ha1, Hw0, Hw1, Hw2, Hw3⟩,
    ⟨%f0, H0⟩, ⟨%f1, H1⟩, ⟨%f2, H2⟩, ⟨%f3, H3⟩, ⟨Hl0, Hl1, Hl2⟩, ⟨%f5, H5⟩⟩, HK⟩
  sl_exec
  unfold owB
  iapply (step_signal m K c _ 2 _ W (dev1_eq c) fc) $$ [HO HtB2 Hl2]
  · isplitr; · iexact HR
    isplitl [HO]; · iexact HO
    isplitl [HtB2]; · iexact HtB2
    iexact Hl2
  iintro HO
  iapply (step_signal m K c _ 1 _ W (dev2_eq c) fc) $$ [HO HtB1 Hl1]
  · isplitr; · iexact HR
    isplitl [HO]; · iexact HO
    isplitl [HtB1]; · iexact HtB1
    iexact Hl1
  iintro HO
  iapply (step_signal m K c _ 0 _ W (dev3_eq c) fc) $$ [HO HtB0 Hl0]
  · isplitr; · iexact HR
    isplitl [HO]; · iexact HO
    isplitl [HtB0]; · iexact HtB0
    iexact Hl0
  iintro HO
  iapply (step_barrier m K c W) $$ [HcB HO HpB]
  · isplitr; · iexact HR
    isplitr; · iexact HL
    isplitl [HcB]; · iexact HcB
    isplitl [HO] <;> iassumption
  iintro ⟨HO, HpB, ⟨%g0, Hl0⟩, ⟨%g1, Hl1⟩, ⟨%g2, Hl2⟩⟩
  have hmw : (levAts L lv : sProp 𝕄) ⊢ MayWait (c : Thread nD τ) (SemLoc.dma 0) () (owR c) := mayWait_owR c (.dma 0) (Nat.zero_le 1)
  sl_exec
  have hx : sound_body.sl.x m c f0 = m ((c : Thread nD τ).loc main_arg0) := by
    unfold sound_body.sl.x sound_body.sl.dma0
    exact (Memref.readAt_unit_zero (Elt F) cc0_scratch0 hz2 _ _).trans ((View.write_whole_univ _ _ _).trans (View.read_whole _ _))
  rw [hx, stored_a]
  ihave H2' := (Entails.of_eq (quarters m c)) $$ [H2]
  · unfold bufPts aB; iexact H2
  icases H2' with ⟨Hq0, Hq1, Hq2, Hq3⟩
  unfold owR
  iapply (step_send m K c _ 0 _ _ (dev4_eq c) g0) $$ [Hq0 Hl0 HO HtS0 HtR0]
  · isplitr; · iexact HR
    isplitl [Hq0]; · iexact Hq0
    isplitl [Hl0]; · iexact Hl0
    isplitl [HO]; · iexact HO
    isplitl [HtS0]; · iexact HtS0
    iexact HtR0
  iintro ⟨HcS0, HO⟩
  iapply (step_send m K c _ 1 _ _ (dev5_eq c) g1) $$ [Hq1 Hl1 HO HtS1 HtR1]
  · isplitr; · iexact HR
    isplitl [Hq1]; · iexact Hq1
    isplitl [Hl1]; · iexact Hl1
    isplitl [HO]; · iexact HO
    isplitl [HtS1]; · iexact HtS1
    iexact HtR1
  iintro ⟨HcS1, HO⟩
  iapply (step_send m K c _ 2 0 _ (dev6_eq c) g2) $$ [Hq2 Hl2 HO HtS2 HtR2]
  · isplitr; · iexact HR
    isplitl [Hq2]; · iexact Hq2
    isplitl [Hl2]; · iexact Hl2
    isplitl [HO]; · rw [zero_add]; iexact HO
    isplitl [HtS2]; · iexact HtS2
    iexact HtR2
  iintro ⟨HcS2, HO⟩
  unfold aPts
  sl_exec
  iapply (step_recv m K c 0 _ (N_slot 0)) $$ [HcR0 HO HpR0]
  · isplitr; · iexact HR
    isplitl [HcR0]; · iexact HcR0
    isplitl [HO]; · iexact HO
    iexact HpR0
  unfold rcvPay slotPts
  iintro ⟨HO, HpR0, ⟨%h0, %hh0, Hl0⟩⟩
  have hin0 : ((Memref.whole cc0_scratch4).access (Rect.unit (s := S3x512x256) ![0, 0, 0] S1x512x256.size inb_S3x512x256_S1x512x256_0_0_0)).set ⊆ (slotM 0).view.set := slot_access 0 _
  sl_exec
  iapply (step_recv m K c 2 _ (N_slot 2)) $$ [HcR2 HO HpR2]
  · isplitr; · iexact HR
    isplitl [HcR2]; · iexact HcR2
    isplitl [HO]; · iexact HO
    iexact HpR2
  unfold rcvPay slotPts
  iintro ⟨HO, HpR2, ⟨%h2, %hh2, Hl2⟩⟩
  have hin2 : ((Memref.whole cc0_scratch4).access (Rect.unit (s := S3x512x256) ![2, 0, 0] S1x512x256.size inb_S3x512x256_S1x512x256_2_0_0)).set ⊆ (slotM 2).view.set := slot_access 2 _
  sl_exec
  iapply (step_recv m K c 1 _ (N_slot 1)) $$ [HcR1 HO HpR1]
  · isplitr; · iexact HR
    isplitl [HcR1]; · iexact HcR1
    isplitl [HO]; · iexact HO
    iexact HpR1
  unfold rcvPay slotPts
  iintro ⟨HO, HpR1, ⟨%h1, %hh1, Hl1⟩⟩
  have hin1 : ((Memref.whole cc0_scratch4).access (Rect.unit (s := S3x512x256) ![1, 0, 0] S1x512x256.size inb_S3x512x256_S1x512x256_1_0_0)).set ⊆ (slotM 1).view.set := slot_access 1 _
  sl_exec
  iapply (step_sent m K c 0 _ rfl) $$ [HcS0 HO HpS0]
  · isplitr; · iexact HR
    isplitl [HcS0]; · iexact HcS0
    isplitl [HO]; · iexact HO
    iexact HpS0
  iintro ⟨HO, HpS0, Hq0⟩
  iapply (step_sent m K c 1 _ rfl) $$ [HcS1 HO HpS1]
  · isplitr; · iexact HR
    isplitl [HcS1]; · iexact HcS1
    isplitl [HO]; · iexact HO
    iexact HpS1
  iintro ⟨HO, HpS1, Hq1⟩
  iapply (step_sent m K c 2 _ rfl) $$ [HcS2 HO HpS2]
  · isplitr; · iexact HR
    isplitl [HcS2]; · iexact HcS2
    isplitl [HO]; · iexact HO
    iexact HpS2
  iintro ⟨HO, HpS2, Hq2⟩
  have hx1 : sound_body.sl.x_1 m c f1 = m ((c : Thread nD τ).loc main_arg1) := by
    unfold sound_body.sl.x_1 sound_body.sl.dma0_1
    exact (Memref.readAt_unit_zero (Elt F) cc0_scratch1 hz2 _ _).trans ((View.write_whole_univ _ _ _).trans (View.read_whole _ _))
  have hb : (Memref.whole cc0_scratch3).view.readCov (sound_body.sl.H3_1 m c f1) (Rect.unit (s := S256x512) ![0, 0] S256x512.size inb_S256x512_S256x512_0_0).toLoadRect
      = bB m c := by
    unfold sound_body.sl.H3_1
    rw [hx1]
    exact View.readCov_cons_toLoadRect _ _ _ _
  have ha : aM.view.readAt (Elt F) (Rect.unit (s := S512x256) ![0, 0] S512x256.size inb_S512x256_S512x256_0_0).toLoadRect (aB m c) = aB m c :=
    Memref.readAt_unit_zero (Elt F) cc0_scratch2 hz2 _ _
  have e0 : sound_body.sl.dma7 m c f1 f5 = prod (aB m c) (bB m c) := by
    unfold sound_body.sl.dma7
    refine (staged _ _ _ f5 (prod _ _) []).trans ?_
    unfold sound_body.sl.x_2
    exact congrArg₂ prod ha hb
  have e1 : sound_body.sl.dma4 m c f1 f5 h0 = prod (aB m (far 3 c)) (bB m c) := by
    unfold sound_body.sl.dma4 sound_body.sl.H5_2
    refine (staged _ _ _ f5 (prod (shapeCast _ _ _) _) _).trans ?_
    unfold sound_body.sl.x_3 sound_body.sl.x_4
    exact congrArg₂ prod ((slot_load 0 _ h0).trans hh0) hb
  have e2 : sound_body.sl.dma4_1 m c f1 f5 h0 h2 = prod (aB m (far 1 c)) (bB m c) := by
    unfold sound_body.sl.dma4_1 sound_body.sl.H5_3
    refine (staged _ _ _ f5 (prod (shapeCast _ _ _) _) _).trans ?_
    unfold sound_body.sl.x_5 sound_body.sl.x_6
    exact congrArg₂ prod ((slot_load 2 _ h2).trans hh2) hb
  have e3 : sound_body.sl.dma4_2 m c f1 f5 h0 h2 h1 = prod (aB m (far 2 c)) (bB m c) := by
    unfold sound_body.sl.dma4_2 sound_body.sl.H5_4
    refine (staged _ _ _ f5 (prod (shapeCast _ _ _) _) _).trans ?_
    unfold sound_body.sl.x_7 sound_body.sl.x_8
    exact congrArg₂ prod ((slot_load 1 _ h1).trans hh1) hb
  ihave Hw0 := (win_done m c c _ (off_own c) fv _ e0) $$ Hw0
  ihave Hw1 := (win_done m c (far 3 c) _ (off_1 c) fv _ e1) $$ Hw1
  ihave Hw2 := (win_done m c (far 1 c) _ (off_3 c) fv _ e2) $$ Hw2
  ihave Hw3 := (win_done m c (far 2 c) _ (off_2 c) fv _ e3) $$ Hw3
  ihave H2 := (Entails.of_eq (quarters m c).symm) $$ [Hq0 Hq1 Hq2 Hq3]
  · unfold aPts; isplitl [Hq0]; · iexact Hq0
    isplitl [Hq1]; · iexact Hq1
    isplitl [Hq2]; · iexact Hq2
    iexact Hq3
  imod (step_close m K (c, 0)) $$ [HpB] with HpB
  · isplitr; · iexact HR
    iexact HpB
  imod (step_close m K (c, kS 0)) $$ [HpS0] with HpS0
  · isplitr; · iexact HR
    iexact HpS0
  imod (step_close m K (c, kS 1)) $$ [HpS1] with HpS1
  · isplitr; · iexact HR
    iexact HpS1
  imod (step_close m K (c, kS 2)) $$ [HpS2] with HpS2
  · isplitr; · iexact HR
    iexact HpS2
  imod (step_close m K (c, kR 0)) $$ [HpR0] with HpR0
  · isplitr; · iexact HR
    iexact HpR0
  imod (step_close m K (c, kR 1)) $$ [HpR1] with HpR1
  · isplitr; · iexact HR
    iexact HpR1
  imod (step_close m K (c, kR 2)) $$ [HpR2] with HpR2
  · isplitr; · iexact HR
    iexact HpR2
  rw [wp_ret]
  imodintro
  iapply HK
  unfold bodyPost bufPts slotPts
  isplitl [HO]; · iexists _; iexact HO
  isplitl [HpB HpS0 HpS1 HpS2 HpR0 HpR1 HpR2]
  · isplitl [HpB]; · iexact HpB
    isplitl [HpS0]; · iexact HpS0
    isplitl [HpS1]; · iexact HpS1
    isplitl [HpS2]; · iexact HpS2
    isplitl [HpR0]; · iexact HpR0
    isplitl [HpR1]; · iexact HpR1
    iexact HpR2
  isplitl [Hz0 Hz1 Hz8 Hz9 Hz10 Hz11]
  · isplitl [Hz0]; · iexact Hz0
    isplitl [Hz1]; · iexact Hz1
    isplitl [Hz8]; · iexact Hz8
    isplitl [Hz9]; · iexact Hz9
    isplitl [Hz10]; · iexact Hz10
    iexact Hz11
  isplitl [Ha0 Ha1 Hw0 Hw1 Hw2 Hw3]
  · isplitl [Ha0]; · iexact Ha0
    isplitl [Ha1]; · iexact Ha1
    isplitl [Hw0]; · iexact Hw0
    isplitl [Hw1]; · iexact Hw1
    isplitl [Hw2]; · iexact Hw2
    iexact Hw3
  isplitl [H0]; · iexists _; iexact H0
  isplitl [H1]; · iexists _; iexact H1
  isplitl [H2]; · iexists _; iexact H2
  isplitl [H3]; · iexists _; iexact H3
  isplitl [Hl0 Hl1 Hl2]
  · isplitl [Hl0]; · iexists _; iexact Hl0
    isplitl [Hl1]; · iexists _; iexact Hl1
    iexists _; iexact Hl2
  iexists _; iexact H5

end Body
end Cert.Gather
end
-- ==== Proof.Split.lean ====
/-
  Whole buffers and their pieces: the result's four row blocks, the landing buffer's three slots.
-/
module

public import proofs.«01_k».proof.Proof.Run
public import Idealize.ShloMosaic.Lib.Ring

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (m : (ℓ : Loc nD τ sig) → Buf (Elt F) ℓ)

/-! ## The row blocks of the result -/

/-- An index lies in row block `o` when its row does. -/
theorem mem_win (o : Dev nD) (i : S2048x512.Idx) : i ∈ (winM o).view.set ↔ 512 * o.val ≤ (i 0).val ∧ (i 0).val < 512 * o.val + 512 := by
  rw [show (winM o).view.set = (Rect.unit (s := S2048x512) ![512 * o.val, 0] S512x512.size (win_inb o)).set from View.set_slice_whole _ _]
  refine Rect.mem_set_unit.trans ⟨fun h => h 0, fun h a => ?_⟩
  fin_cases a
  · exact h
  · exact ⟨Nat.zero_le _, (i 1).isLt.trans_eq (Nat.zero_add _).symm⟩
/-- Row blocks of two devices have no element in common, -/
theorem win_disjoint (o o' : Dev nD) (h : o ≠ o') : Disjoint (winM o).view.set (winM o').view.set := by
  refine Finset.disjoint_left.mpr fun i hi hi' => h (Fin.ext ?_)
  have a := (mem_win o i).mp hi; have b := (mem_win o' i).mp hi'; omega
/-- and together they are the whole result. -/
theorem win_cover : Finset.univ.biUnion (fun o : Dev nD => (winM o).view.set) = (Finset.univ : Finset S2048x512.Idx) := by
  refine Finset.eq_univ_iff_forall.mpr fun i => Finset.mem_biUnion.mpr ?_
  have h : (i 0).val < 2048 := (i 0).isLt
  refine ⟨⟨(i 0).val / 512, by show _ < 4; omega⟩, Finset.mem_univ _, (mem_win _ i).mpr ?_⟩
  show 512 * ((i 0).val / 512) ≤ _ ∧ _ < 512 * ((i 0).val / 512) + 512
  omega

/-- The four devices, from `c` on in the order in which the kernel makes their row blocks. -/
theorem around (c : Dev nD) (Φ : Dev nD → sProp 𝕄) : bigSep Finset.univ Φ = iprop(Φ c ∗ Φ (far 3 c) ∗ Φ (far 1 c) ∗ Φ (far 2 c)) :=
  bigSep_univ_eq_bigSepL [c, far 3 c, far 1 c, far 2 c] (by revert c; decide) (by revert c; decide) Φ

/-- The result held whole is its four row blocks, -/
theorem result_split (c : Dev nD) (f : Buf (Elt F) ((c : Thread nD τ).loc main_v1)) :
    bufPts c main_v1 f = iprop(winPts c (winM c) f ∗ winPts c (winM (far 3 c)) f ∗ winPts c (winM (far 1 c)) f ∗ winPts c (winM (far 2 c)) f) :=
  (Ring.pointsTo_blocks (ℓ := (c : Thread nD τ).loc main_v1) (fun o : Dev nD => (winM o).view.set) win_disjoint win_cover f).trans
    (around c fun o => winPts c (winM o) f)

/-- and four row blocks made are the result held whole, each row block reading as what was made. -/
theorem result_join (c : Dev nD) :
    iprop(winDone m c c ∗ winDone m c (far 3 c) ∗ winDone m c (far 1 c) ∗ winDone m c (far 2 c))
      ⊢ iprop(∃ g, ⌜∀ o, (winM o).view.read (Elt F) g = prod (aB m o) (bB m c)⌝ ∗ bufPts c main_v1 g) := by
  rw [← around c (winDone m c)]
  unfold winDone
  have : Nonempty (Buf (Elt F) ((c : Thread nD τ).loc main_v1)) := ⟨m _⟩
  iintro H
  ihave H := (BI.bigSep_exists_pi Finset.univ (fun (o : Dev nD) (f : Buf (Elt F) ((c : Thread nD τ).loc main_v1)) =>
    (iprop(⌜(winM o).view.read (Elt F) f = prod (aB m o) (bB m c)⌝ ∗ winPts c (winM o) f) : sProp 𝕄))) $$ H
  icases H with ⟨%fs, H⟩
  ihave H := (BI.bigSep_pure_sep _ _ _) $$ H
  icases H with ⟨%hr, H⟩
  ihave H := (pointsTo_biUnion_join (ℓ := (c : Thread nD τ).loc main_v1) Finset.univ (fun o : Dev nD => (winM o).view.set) fs (m _)
    (fun o _ o' _ h => win_disjoint o o' h)) $$ [H]
  · iexact H
  icases H with ⟨%g, %hg, H⟩
  iexists g
  isplitr
  · ipureintro
    intro o
    refine (funext fun y => ?_ : (winM o).view.read (Elt F) g = (winM o).view.read (Elt F) (fs o)).trans (hr o (Finset.mem_univ o))
    exact hg o (Finset.mem_univ o) _ (View.emb_mem_set _ y)
  rw [win_cover]
  unfold bufPts
  iexact H

/-! ## The slots of the landing buffer -/

/-- An index lies in slot `j` when its first coordinate is `j`. -/
theorem mem_slot (j : Fin 3) (i : S3x512x256.Idx) : i ∈ (slotM j).view.set ↔ (i 0).val = j.val := by
  rw [show (slotM j).view.set = (Rect.unit (s := S3x512x256) ![j.val, 0, 0] S1x512x256.size (slot_inb j)).set from
    (View.set_reshape _ _).trans (View.set_slice_whole _ _)]
  refine Rect.mem_set_unit.trans ⟨fun h => ?_, fun h a => ?_⟩
  · have h0 : j.val ≤ (i 0).val ∧ (i 0).val < j.val + 1 := h 0
    omega
  · fin_cases a
    · exact ⟨h.ge, by show (i 0).val < j.val + 1; omega⟩
    · exact ⟨Nat.zero_le _, (i 1).isLt.trans_eq (Nat.zero_add _).symm⟩
    · exact ⟨Nat.zero_le _, (i 2).isLt.trans_eq (Nat.zero_add _).symm⟩
/-- Two slots have no element in common, -/
theorem slot_disjoint (j j' : Fin 3) (h : j ≠ j') : Disjoint (slotM j).view.set (slotM j').view.set :=
  Finset.disjoint_left.mpr fun i hi hi' => h (Fin.ext (((mem_slot j i).mp hi).symm.trans ((mem_slot j' i).mp hi')))
/-- and together they are the whole landing buffer. -/
theorem slot_cover : Finset.univ.biUnion (fun j : Fin 3 => (slotM j).view.set) = (Finset.univ : Finset S3x512x256.Idx) :=
  Finset.eq_univ_iff_forall.mpr fun i => Finset.mem_biUnion.mpr ⟨i 0, Finset.mem_univ _, (mem_slot _ i).mpr rfl⟩

/-- The landing buffer held whole is its three slots, -/
theorem slots_split (c : Dev nD) (f : Buf (Elt F) ((c : Thread nD τ).loc cc0_scratch4)) :
    bufPts c cc0_scratch4 f = iprop(slotPts c 0 f ∗ slotPts c 1 f ∗ slotPts c 2 f) :=
  (Ring.pointsTo_blocks (ℓ := (c : Thread nD τ).loc cc0_scratch4) (fun j : Fin 3 => (slotM j).view.set) slot_disjoint slot_cover f).trans
    (bigSep_univ_eq_bigSepL [0, 1, 2] (by decide) (by decide) fun j => slotPts c j f)

/-- and three slots held at any contents are the landing buffer held whole. -/
theorem slots_join (c : Dev nD) (f₀ : Buf (Elt F) ((c : Thread nD τ).loc cc0_scratch4)) :
    iprop((∃ f, slotPts c 0 f) ∗ (∃ f, slotPts c 1 f) ∗ (∃ f, slotPts c 2 f)) ⊢ (iprop(∃ g, bufPts c cc0_scratch4 g) : sProp 𝕄) :=
  (Entails.of_eq (bigSep_univ_eq_bigSepL [0, 1, 2] (by decide) (by decide) (fun j : Fin 3 => (iprop(∃ f, slotPts c j f) : sProp 𝕄))).symm).trans
    (Ring.pointsTo_blocks_join_exists (ℓ := (c : Thread nD τ).loc cc0_scratch4) (fun j : Fin 3 => (slotM j).view.set) slot_disjoint slot_cover
      f₀)

end Cert.Gather
end
-- ==== Proof.Ghost.lean ====
/-
  What the launch deals out: the protocol's cells are allocated for all devices at once, and each duty's token goes to the
  device that pays the duty.
-/
module

public import proofs.«01_k».proof.Proof.Split

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (m : (ℓ : Loc nD τ sig) → Buf (Elt F) ℓ)

/-! ## The semaphores -/

/-- The kernel's own semaphores are its twelve DMA semaphores. -/
abbrev osem (k : Fin 12) : SemLoc sig := .dma k
/-- They are distinct, and all that the kernel owns. -/
theorem ownSemFacts : Pipeline.OwnSemFacts cfg0.spec osem := by decide

/-- The counters of a device's seven protocol cells, at zero, -/
def cellZeros (c : Dev nD) : sProp 𝕄 :=
  iprop(semVal (barCell c) 0 ∗ semVal (sndCell 0 c) 0 ∗ semVal (sndCell 1 c) 0 ∗ semVal (sndCell 2 c) 0
    ∗ semVal (rcvCell 0 c) 0 ∗ semVal (rcvCell 1 c) 0 ∗ semVal (rcvCell 2 c) 0)
/-- and of the six semaphores of its local copies. -/
def localZeros (c : Dev nD) : sProp 𝕄 := iprop(zero c 0 ∗ zero c 1 ∗ zero c 8 ∗ zero c 9 ∗ zero c 10 ∗ zero c 11)

/-- The kernel's own semaphores of a device at zero, listed. -/
theorem ownSems_eq (c : Dev nD) : (Pipeline.ownSems0 (Ix := Unit) (Name := ℕ) (U := UU) (Lvl := ℕ) (Val := Elt F) (τ := τ) osem c : sProp 𝕄)
    = iprop(zero c 0 ∗ zero c 1 ∗ zero c 2 ∗ zero c 3 ∗ zero c 4 ∗ zero c 5 ∗ zero c 6 ∗ zero c 7 ∗ zero c 8 ∗ zero c 9 ∗ zero c 10 ∗ zero c 11) := by
  rw [Pipeline.ownSems0_eq_of_list c osem [0, 1, 2, 3, 4, 5, 6, 7, 8, 9, 10, 11] (by decide) (by decide)]; rfl
/-- The one semaphore besides them is the barrier. -/
theorem unscopedSems_eq (c : Dev nD) : (unscopedSems0 c : sProp 𝕄) = semVal (barCell c) 0 := by
  unfold unscopedSems0; rw [bigSep_eq_bigSepL_of_eq [SemLoc.reg barS] (by decide) (by decide)]; rfl

/-- All of a device's counters, sorted: the protocol's cells, the local copies'. -/
theorem sems_sort (c : Dev nD) :
    iprop(Pipeline.ownSems0 (Ix := Unit) (Name := ℕ) (U := UU) (Lvl := ℕ) (Val := Elt F) (τ := τ) osem c ∗ unscopedSems0 c)
      ⊣⊢ (iprop(cellZeros c ∗ localZeros c) : sProp 𝕄) := by
  rw [ownSems_eq, unscopedSems_eq]
  unfold cellZeros localZeros
  constructor
  · iintro ⟨⟨H0, H1, H2, H3, H4, H5, H6, H7, H8, H9, H10, H11⟩, HB⟩
    isplitl [HB H2 H3 H4 H5 H6 H7]
    · isplitl [HB]; · iexact HB
      isplitl [H2]; · iexact H2
      isplitl [H3]; · iexact H3
      isplitl [H4]; · iexact H4
      isplitl [H5]; · iexact H5
      isplitl [H6]; · iexact H6
      iexact H7
    isplitl [H0]; · iexact H0
    isplitl [H1]; · iexact H1
    isplitl [H8]; · iexact H8
    isplitl [H9]; · iexact H9
    isplitl [H10] <;> iassumption
  · iintro ⟨⟨HB, H2, H3, H4, H5, H6, H7⟩, H0, H1, H8, H9, H10, H11⟩
    isplitr [HB]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10] <;> iassumption
    iexact HB

/-! ## Cells and tokens -/

/-- The seven protocol semaphores of a device are distinct, -/
theorem csem_injective : Function.Injective (csem : Fin 7 → SemLoc sig) := by decide
/-- and so are the cells of all devices. -/
theorem kcell_injective : Function.Injective (kcell : Dev nD × Fin 7 → GSem nD τ sig) := fun a b h =>
  Prod.ext (congrArg (fun g : GSem nD τ sig => g.1.1) h) (csem_injective (congrArg Prod.snd h))
/-- The protocol's cells, on all devices. -/
def allCells : Finset (GSem nD τ sig) := Finset.univ.map ⟨kcell, kcell_injective⟩

/-- The duties of a device's cells: the barrier's three, one of each send and each receive cell. -/
abbrev tokOf (x : Dev nD × Fin 3 × Fin 3) : GSem nD τ sig × ℕ × Fin 3 :=
  (kcell (x.1, if x.2.1 = 0 then 0 else if x.2.1 = 1 then kS x.2.2 else kR x.2.2), 0, if x.2.1 = 0 then x.2.2 else 0)
/-- No duty is counted twice. -/
theorem tokOf_injective : Function.Injective tokOf := fun x y h => by
  have h1 := kcell_injective (congrArg Prod.fst h)
  have h0 : x.1 = y.1 := (Prod.mk.inj h1).1
  refine Prod.ext h0 ?_
  have h2 := (Prod.mk.inj h1).2
  have h3 := congrArg (fun t : GSem nD τ sig × ℕ × Fin 3 => t.2.2) h
  have key : ∀ a b : Fin 3 × Fin 3,
      (if a.1 = 0 then (0 : Fin 7) else if a.1 = 1 then kS a.2 else kR a.2) = (if b.1 = 0 then 0 else if b.1 = 1 then kS b.2 else kR b.2)
        → (if a.1 = 0 then a.2 else 0) = (if b.1 = 0 then b.2 else 0) → a = b := by decide
  exact key x.2 y.2 h2 h3
/-- The duties of all cells. -/
def allToks : Finset (GSem nD τ sig × ℕ × Fin 3) := Finset.univ.map ⟨tokOf, tokOf_injective⟩

/-- An assertion for each of three numbers, listed, -/
theorem fin3 (Φ : Fin 3 → sProp 𝕄) : bigSep Finset.univ Φ = iprop(Φ 0 ∗ Φ 1 ∗ Φ 2) := bigSep_univ_eq_bigSepL [0, 1, 2] (by decide) (by decide) Φ

/-- and for each of seven. -/
theorem fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

/-- The tokens of device `c`'s own cells, as they are made, -/
def madeToks (c : Dev nD) : sProp 𝕄 :=
  iprop((bigSep Finset.univ fun j : Fin 3 => dutyTok ER (barCell c) 0 j) ∗ (bigSep Finset.univ fun j : Fin 3 => dutyTok ER (sndCell j c) 0 0)
    ∗ bigSep Finset.univ fun j : Fin 3 => dutyTok ER (rcvCell j c) 0 0)
/-- and the tokens of the duties that device `c` pays. -/
def paidToks (c : Dev nD) : sProp 𝕄 :=
  iprop((bigSep Finset.univ fun j : Fin 3 => dutyTok ER (barCell ((turn j).symm c)) 0 j) ∗ (bigSep Finset.univ fun j : Fin 3 => dutyTok ER (sndCell j c) 0 0)
    ∗ bigSep Finset.univ fun j : Fin 3 => dutyTok ER (rcvCell j (turn j c)) 0 0)

/-- The first kind of duty is a barrier cell's, -/
theorem tok_bar (c : Dev nD) (j : Fin 3) : tokOf (c, 0, j) = (barCell c, 0, j) := rfl
/-- the second a send cell's, -/
theorem tok_snd (c : Dev nD) (j : Fin 3) : tokOf (c, 1, j) = (sndCell j c, 0, 0) := by rw [← kcell_snd]; rfl
/-- the third a receive cell's. -/
theorem tok_rcv (c : Dev nD) (j : Fin 3) : tokOf (c, 2, j) = (rcvCell j c, 0, 0) := by rw [← kcell_rcv]; rfl
/-- The tokens made are those of every device's own cells. -/
theorem made_eq : bigSep allToks (fun x => (dutyTok ER x.1 x.2.1 x.2.2 : sProp 𝕄)) = bigSep Finset.univ madeToks := by
  unfold allToks
  rw [bigSep_map, bigSep_univ_prod]
  refine bigSep_congr fun c _ => ?_
  rw [bigSep_univ_prod, fin3]
  simp only [Function.Embedding.coeFn_mk, tok_bar, tok_snd, tok_rcv]
  rfl

/-- A family of assertions, one for each number `j` and device, dealt around: each `j` by its own rearrangement. -/
theorem dealt (e : Fin 3 → (Dev nD ≃ Dev nD)) (Φ : Fin 3 → Dev nD → sProp 𝕄) :
    (bigSep Finset.univ fun c => bigSep Finset.univ fun j => Φ j c) = bigSep Finset.univ fun c => bigSep Finset.univ fun j => Φ j (e j c) := by
  have swap (Ψ : Fin 3 → Dev nD → sProp 𝕄) :
      (bigSep Finset.univ fun c => bigSep Finset.univ fun j => Ψ j c) = bigSep Finset.univ fun j => bigSep Finset.univ fun c => Ψ j c := by
    rw [← bigSep_univ_prod fun x : Dev nD × Fin 3 => Ψ x.2 x.1, ← bigSep_univ_prod fun x : Fin 3 × Dev nD => Ψ x.1 x.2,
      bigSep_univ_equiv (Equiv.prodComm (Fin 3) (Dev nD))]
    rfl
  rw [swap, swap fun j c => Φ j (e j c)]
  exact bigSep_congr fun j _ => bigSep_univ_equiv (e j) (Φ j)

/-- The tokens of every device's own cells, dealt around, are the tokens of the duties that every device pays. -/
theorem toks_dealt : (bigSep Finset.univ fun c : Dev nD => (madeToks c : sProp 𝕄)) = bigSep Finset.univ paidToks := by
  unfold madeToks paidToks
  rw [bigSep_sep', bigSep_sep', bigSep_sep', bigSep_sep', dealt (fun j => (turn j).symm) fun j c => (dutyTok ER (barCell c) 0 j : sProp 𝕄),
    dealt turn fun j c => (dutyTok ER (rcvCell j c) 0 0 : sProp 𝕄)]

/-! ## What each device starts from -/

/-- Device `c`'s positions on its own cells. -/
def positions (c : Dev nD) : sProp 𝕄 := bigSep Finset.univ fun k : Fin 7 => atPos ER (kcell (c, k)) 0 ∅ 0

/-- What the initial element deals device `c`. -/
def seed (c : Dev nD) : sProp 𝕄 :=
  iprop((bigSep Finset.univ fun k : Fin 7 => roundState ER (sched (F := F) m) (kcell (c, k)) 0)
    ∗ (bigSep Finset.univ fun k : Fin 7 => reached ER (kcell (c, k)) 0) ∗ positions c ∗ madeToks c)
/-- What device `c` has of the protocol at its start. -/
def share (c : Dev nD) : sProp 𝕄 := iprop(∃ K, records m K ∗ positions c ∗ paidToks c ∗ localZeros c)

/-- The initial element of the protocol's cells and duties seeds every device. -/
theorem seeded : BI.own (ER (initOf allCells allToks)) ⊢ (|==> bigSep Finset.univ (seed m) : sProp 𝕄) := by
  have hX (Φ : GSem nD τ sig → sProp 𝕄) : bigSep allCells Φ = bigSep Finset.univ fun c : Dev nD => bigSep Finset.univ fun k : Fin 7 => Φ (kcell (c, k)) := by
    unfold allCells; rw [bigSep_map, bigSep_univ_prod]; rfl
  iintro H
  imod (Rounds.fund ER (sched m) allCells allToks) $$ H with ⟨Hs, Hr, Ha, Ht⟩
  imodintro
  unfold seed positions
  rw [bigSep_sep', bigSep_sep', bigSep_sep', ← made_eq, ← hX fun g => roundState ER (sched m) g 0, ← hX fun g => reached ER g 0, ← hX fun g => atPos ER g 0 ∅ 0]
  isplitl [Hs]; · iexact Hs
  isplitl [Hr]; · iexact Hr
  isplitl [Ha] <;> iassumption

/-- A cell at zero whose rounds have not begun gets its invariant, -/
theorem cell_open (g : GSem nD τ sig) :
    iprop(semVal g 0 ∗ roundState ER (sched m) g 0 ∗ reached ER g 0) ⊢ (|={Set.univ}=> iprop(∃ κ : ℕ, cellInv ER (sched (F := F) m) κ g ∗ reached ER g 0) : sProp 𝕄) := by
  iintro ⟨Hv, Hs, Hr⟩
  imod ((Rounds.body_intro ER (sched m) g).trans inv_alloc) $$ [Hv Hs] with ⟨%κ, H⟩
  · isplitl [Hv] <;> iassumption
  imodintro
  iexists κ
  isplitl [H] <;> iassumption
/-- so all of a device's do, -/
theorem all_open (c : Dev nD) :
    iprop((bigSep Finset.univ fun k : Fin 7 => semVal (kcell (c, k)) 0) ∗ (bigSep Finset.univ fun k : Fin 7 => roundState ER (sched m) (kcell (c, k)) 0)
        ∗ bigSep Finset.univ fun k : Fin 7 => reached ER (kcell (c, k)) 0)
      ⊢ (|={Set.univ}=> bigSep Finset.univ fun k : Fin 7 => iprop(∃ κ : ℕ, cellInv ER (sched (F := F) m) κ (kcell (c, k)) ∗ reached ER (kcell (c, k)) 0) : sProp 𝕄) := by
  rw [← bigSep_sep', ← bigSep_sep']
  exact (bigSep_mono fun k _ => cell_open m (kcell (c, k))).trans (bigSep_fupd _ _)
/-- and the device keeps its positions, tokens and other counters. -/
theorem cells_open (c : Dev nD) :
    iprop(Pipeline.ownSems0 (Ix := Unit) (Name := ℕ) (U := UU) (Lvl := ℕ) (Val := Elt F) (τ := τ) osem c ∗ unscopedSems0 c ∗ seed m c)
      ⊢ |={Set.univ}=> iprop((bigSep Finset.univ fun k : Fin 7 => iprop(∃ κ : ℕ, cellInv ER (sched (F := F) m) κ (kcell (c, k)) ∗ reached ER (kcell (c, k)) 0))
          ∗ positions c ∗ madeToks c ∗ localZeros c) := by
  unfold seed
  iintro ⟨Ho, Hu, Hs, Hr, Ha, Ht⟩
  ihave H := (sems_sort (F := F) c).1 $$ [Ho Hu]
  · isplitl [Ho] <;> iassumption
  icases H with ⟨Hz, Hl⟩
  ihave Hz := (Entails.of_eq (fin7 fun k => (semVal (kcell (c, k)) 0 : sProp 𝕄)).symm) $$ [Hz]
  · unfold cellZeros; iexact Hz
  imod (all_open m c) $$ [Hz Hs Hr] with H
  · isplitl [Hz]; · iexact Hz
    isplitl [Hs] <;> iassumption
  imodintro
  isplitl [H]; · iexact H
  isplitl [Ha]; · iexact Ha
  isplitl [Ht] <;> iassumption

/-- A device with the records, its positions, its tokens and its local counters has its share, -/
theorem share_intro (K : Dev nD × Fin 7 → ℕ) (c : Dev nD) : iprop(records m K ∗ positions c ∗ paidToks c ∗ localZeros c) ⊢ (share m c : sProp 𝕄) := by
  unfold share
  iintro H
  iexists K
  iexact H
/-- for all devices at once. -/
theorem share_each (K : Dev nD × Fin 7 → ℕ) :
    iprop((bigSep Finset.univ fun _ : Dev nD => records m K) ∗ bigSep Finset.univ positions ∗ bigSep Finset.univ paidToks ∗ bigSep Finset.univ localZeros)
      ⊢ (bigSep Finset.univ (share m) : sProp 𝕄) := by
  rw [← bigSep_sep', ← bigSep_sep', ← bigSep_sep']
  exact bigSep_mono fun c _ => share_intro m K c

/-- What every device may know, and what each has for itself. -/
theorem all_share :
    (bigSep Finset.univ fun c : Dev nD => iprop((bigSep Finset.univ fun k : Fin 7 => iprop(∃ κ : ℕ, cellInv ER (sched (F := F) m) κ (kcell (c, k)) ∗ reached ER (kcell (c, k)) 0))
          ∗ positions c ∗ madeToks c ∗ localZeros c) : sProp 𝕄)
      ⊢ bigSep Finset.univ (share m) := by
  rw [bigSep_sep', bigSep_sep', bigSep_sep', toks_dealt,
    ← bigSep_univ_prod (fun ck : Dev nD × Fin 7 => iprop(∃ κ : ℕ, cellInv ER (sched (F := F) m) κ (kcell ck) ∗ reached ER (kcell ck) 0))]
  iintro ⟨HI, Ha, Ht, Hl⟩
  ihave HK := (BI.bigSep_exists_pi Finset.univ (fun (ck : Dev nD × Fin 7) (κ : ℕ) => (iprop(cellInv ER (sched m) κ (kcell ck) ∗ reached ER (kcell ck) 0) : sProp 𝕄))) $$ HI
  icases HK with ⟨%K, HR⟩
  ihave #HR' := (show _ ⊢ records m K from by unfold records known; exact Entails.refl _) $$ HR
  ihave HRs := (BI.bigSep_of_persistent (Finset.univ : Finset (Dev nD)) (records m K)) $$ HR'
  ihave H := (share_each m K) $$ [HRs Ha Ht Hl]
  · isplitl [HRs]; · iexact HRs
    isplitl [Ha]; · iexact Ha
    isplitl [Ht] <;> iassumption
  iexact H

/-- The one update at launch, over all devices' semaphores and seeds. -/
theorem glob : (bigSep Finset.univ fun c => iprop(Pipeline.ownSems0 (Ix := Unit) (Name := ℕ) (U := UU) (Lvl := ℕ) (Val := Elt F) (τ := τ) osem c ∗ unscopedSems0 c ∗ seed m c) : sProp 𝕄)
    ⊢ |={Set.univ}=> bigSep Finset.univ (share m) :=
  ((bigSep_mono fun c _ => cells_open m c).trans (bigSep_fupd _ _)).trans (BI.fupd_mono (all_share m))

/-! ## The credit that the launch gives for what the others owe -/

/-- Receive cells are the same only with the same number on the same device. -/
theorem rcv_iff {j j' : Fin 3} {a b : Dev nD} : rcvCell j a = rcvCell j' b ↔ j = j' ∧ a = b := by
  rw [← kcell_rcv, ← kcell_rcv, kcell_injective.eq_iff, Prod.mk.injEq]
  refine ⟨fun h => ⟨?_, h.1⟩, fun h => ⟨h.2, by rw [h.1]⟩⟩
  have := congrArg Fin.val h.2
  exact Fin.ext (by simpa using this)
/-- Barrier cells are the same only on the same device. -/
theorem bar_iff {a b : Dev nD} : barCell a = barCell b ↔ a = b :=
  ⟨fun h => congrArg (fun g : GSem nD τ sig => g.1.1) h, fun h => by rw [h]⟩
/-- A receive cell is no barrier cell, -/
theorem rcv_ne_bar {j : Fin 3} {a b : Dev nD} : rcvCell j a ≠ barCell b := fun h => by
  have := congrArg Prod.snd h; cases this
/-- nor a barrier cell a receive cell. -/
theorem bar_ne_rcv {j : Fin 3} {a b : Dev nD} : barCell b ≠ rcvCell j a := fun h => rcv_ne_bar h.symm
/-- Going around the ring, and back again the other way, -/
theorem far_iff (j : Fin 3) (c d : Dev nD) : c = far (j.val + 1) d ↔ d = far (3 - j.val) c := by revert j c d; decide
/-- in either order. -/
theorem far_iff' (j : Fin 3) (c d : Dev nD) : c = far (3 - j.val) d ↔ d = far (j.val + 1) c := by revert j c d; decide

/-- Of a receive cell's credit all is owed by the one device that copies there. -/
theorem owed_rcv (j : Fin 3) (c d : Dev nD) : owB d (rcvCell j c) () = if d = far (3 - j.val) c then N else 0 := by
  rw [if_congr (far_iff j c d).symm rfl rfl]
  unfold owB owR
  simp only [Pi.add_apply, Finsupp.add_apply, tallyAt_apply, rcv_iff, rcv_ne_bar, and_true, false_and, if_false, add_zero]
  fin_cases j <;> simp
/-- Each other device owes a barrier cell a unit. -/
theorem owed_bar (c d : Dev nD) : owB d (barCell c) () = (if d = far 1 c then 1 else 0) + (if d = far 2 c then 1 else 0) + (if d = far 3 c then 1 else 0) := by
  have h1 := far_iff' 0 c d; have h2 := far_iff' 1 c d; have h3 := far_iff' 2 c d
  unfold owB owR
  simp only [Pi.add_apply, Finsupp.add_apply, tallyAt_apply, bar_iff, bar_ne_rcv, and_true, false_and, if_false, zero_add]
  simp only [Fin.val_zero, Fin.val_one, Fin.val_two, Nat.reduceAdd, Nat.reduceSub] at h1 h2 h3
  rw [if_congr h1 rfl rfl, if_congr h2 rfl rfl, if_congr h3 rfl rfl]

/-- A receive cell's credit at the launch is one row block's, -/
theorem launch_rcv (j : Fin 3) (c : Dev nD) :
    tallyOn (rcvCell j c) (launchCredit (Pipeline.owing owB) 0 (rcvCell j c)) = (tallyAt (rcvCell j c) () N : CellTallies nD τ sig Unit) := by
  unfold tallyAt; refine congrArg _ (Finsupp.ext fun u => ?_); cases u
  rw [Pipeline.launchCredit_owing, Finsupp.single_eq_same, Finset.sum_congr rfl fun d _ => owed_rcv j c d, Finset.sum_ite_eq' Finset.univ _ fun _ => N,
    if_pos (Finset.mem_univ _)]
/-- and a barrier cell's is three units. -/
theorem launch_bar (c : Dev nD) :
    tallyOn (barCell c) (launchCredit (Pipeline.owing owB) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar c d, Finset.sum_add_distrib, Finset.sum_add_distrib,
    Finset.sum_ite_eq' Finset.univ _ fun _ => 1, Finset.sum_ite_eq' Finset.univ _ fun _ => 1, Finset.sum_ite_eq' Finset.univ _ fun _ => 1]
  simp only [Finset.mem_univ, if_true]

/-- Device `c`'s credit: three units on its barrier cell, a row block's credit on each receive cell. -/
theorem creds (c : Dev nD) :
    (Pipeline.launchCred owB c : sProp 𝕄)
      ⊢ iprop(cred (tallyAt (barCell c) () 3) ∗ cred (tallyAt (rcvCell 0 c) () N) ∗ cred (tallyAt (rcvCell 1 c) () N) ∗ cred (tallyAt (rcvCell 2 c) () N)) := by
  unfold Pipeline.launchCred
  refine (bigSep_subset (M := 𝕄) (show ({SemLoc.reg barS, .dma (rcvS 0), .dma (rcvS 1), .dma (rcvS 2)} : Finset (SemLoc sig)) ⊆ Finset.univ from Finset.subset_univ _)).trans ?_
  rw [bigSep_eq_bigSepL_of_eq [SemLoc.reg barS, .dma (rcvS 0), .dma (rcvS 1), .dma (rcvS 2)] (by decide) (by decide)]
  rw [← launch_bar, ← launch_rcv, ← launch_rcv, ← launch_rcv]; exact Entails.refl _

end Cert.Gather
end
-- ==== Proof.Launch.lean ====
/-
  The run of `@main` on the four devices: every device's result is read off row block by row block, its arguments are unchanged
  and every counter is back at zero.
-/
module

public import proofs.«01_k».proof.Proof.Ghost
public import Idealize.ShloMosaic.Lib.Pipeline.CollectiveSegs

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (m : (ℓ : Loc nD τ sig) → Buf (Elt F) ℓ)

variable (ρ : Dev nD → PrngReg)

/-- The memory at the start: any contents, every counter at zero. -/
def s₀ : MemSt nD τ sig (Elt F) := ⟨m, fun _ => 0, ρ⟩

/-! ## What the kernel call starts from and ends with -/

/-- The arguments and the result array, as the program gets them, -/
def arrays (c : Dev nD) : sProp 𝕄 := iprop(bufPts c main_arg0 (m _) ∗ bufPts c main_arg1 (m _) ∗ bufPts c main_v1 (m _))
/-- and as the kernel leaves them: row block `o` of the result is device `o`'s block times the weights. -/
def outcome (c : Dev nD) : sProp 𝕄 :=
  iprop(bufPts c main_arg0 (m _) ∗ bufPts c main_arg1 (m _)
    ∗ ∃ g, ⌜∀ o, (winM o).view.read (Elt F) g = prod (aB m o) (bB m c)⌝ ∗ bufPts c main_v1 g)
/-- The scratch buffers, at any contents. -/
def scratch (c : Dev nD) : sProp 𝕄 :=
  iprop((∃ f, bufPts c cc0_scratch0 f) ∗ (∃ f, bufPts c cc0_scratch1 f) ∗ (∃ f, bufPts c cc0_scratch2 f) ∗ (∃ f, bufPts c cc0_scratch3 f)
    ∗ (∃ f, bufPts c cc0_scratch4 f) ∗ (∃ f, bufPts c cc0_scratch5 f))
/-- What the launch gives a device beside its scratch buffers. -/
def given (c : Dev nD) : sProp 𝕄 := iprop(share m c ∗ Pipeline.launchCred owB c ∗ levAts L lv ∗ arrays m c)

/-- What a device has when the kernel starts on it, -/
def before (c : Dev nD) : sProp 𝕄 := iprop(given m c ∗ scratch c)
/-- and when the kernel has ended: every counter at zero, the result made, the scratch buffers back. -/
def behind (c : Dev nD) : sProp 𝕄 := iprop((cellZeros c ∗ localZeros c) ∗ outcome m c ∗ scratch c)

/-- The kernel has no window: its whole work is one step from `before` to `behind`, in which it pays all it owes. -/
def dats (_ : Fin 1) (c : Dev nD) : Pipeline.Dat τ (Elt F) Unit ℕ UU ℕ cfg0 c where
  A w := w.elim0
  after w := w.elim0
  Φ t := match t with
    | ⟨0, _⟩ => before m c
    | ⟨_ + 1, _⟩ => behind m c
  q _ := fullShare
  owed t := match t with
    | ⟨0, _⟩ => owB c
    | ⟨_ + 1, _⟩ => 0

/-- The buffers that live as long as the kernel are the scratch buffers, -/
theorem scratch_eq (c : Dev nD) : (Pipeline.scopedRest cfg0.spec c : sProp 𝕄) = scratch c := by rw [scopedRest0_eq]; rfl
/-- and the others are the arguments and the result array. -/
theorem arrays_eq (c : Dev nD) : (Pipeline.unscopedRest cfg0.spec c (fun b => m ((c : Thread nD τ).loc b)) : sProp 𝕄) = arrays m c := by
  rw [unscopedRest0_eq]; rfl

/-- A window of the result that starts at row `512 * o` is row block `o`'s. -/
theorem win_off (c o : Dev nD) {off : Fin 2 → Nat} (h) (e : off = ![512 * o.val, 0]) (f : Buf (Elt F) ((c : Thread nD τ).loc main_v1)) :
    winPts c (rows off h) f = winPts c (winM o) f := by subst e; rfl
/-- The result array, held whole, in the four windows as the kernel names them. -/
theorem kernel_windows (c : Dev nD) (f : Buf (Elt F) ((c : Thread nD τ).loc main_v1)) :
    bufPts c main_v1 f = iprop(winPts c (rows _ (k0_off1_inb c)) f ∗ winPts c (rows (k0_off2 c 1#32) (k0_off2_inb c 0)) f
      ∗ winPts c (rows (k0_off2 c 3#32) (k0_off2_inb c 2)) f ∗ winPts c (rows (k0_off2 c 2#32) (k0_off2_inb c 1)) f) := by
  rw [result_split, win_off c c _ (off_own c), win_off c (far 3 c) _ (off_1 c), win_off c (far 1 c) _ (off_3 c), win_off c (far 2 c) _ (off_2 c)]

/-- From what a device starts with to what the body needs, -/
theorem body_start (c : Dev nD) (W) :
    iprop(before m c ∗ owes (c : Thread nD τ) (owB c) W)
      ⊢ (iprop(∃ K fc, bodyPre m K c W (m _) fc) : sProp 𝕄) := by
  unfold before given share positions paidToks localZeros arrays scratch bodyPre
  rw [fin7, fin3, fin3, fin3, kernel_windows]
  iintro ⟨⟨⟨⟨%K, HR, ⟨Hp0, Hp1, Hp2, Hp3, Hp4, Hp5, Hp6⟩, ⟨HB, HS, HV⟩, HZ⟩, Hc, HL, Ha0, Ha1, Hw⟩, H0, H1, H2, H3, ⟨%fc, H4⟩, H5⟩, Ho⟩
  ihave Hc := (creds (F := F) c) $$ Hc
  ihave H4 := (Entails.of_eq (slots_split c fc)) $$ H4
  icases HB with ⟨HB0, HB1, HB2⟩
  icases HS with ⟨HS0, HS1, HS2⟩
  icases HV with ⟨HV0, HV1, HV2⟩
  iexists K
  iexists fc
  isplitl [HR]; · iexact HR
  isplitl [HL]; · iexact HL
  isplitl [Ho]; · iexact Ho
  isplitl [Hp0 Hp1 Hp2 Hp3 Hp4 Hp5 Hp6]
  · isplitl [Hp0]; · iexact Hp0
    isplitl [Hp1]; · iexact Hp1
    isplitl [Hp2]; · iexact Hp2
    isplitl [Hp3]; · iexact Hp3
    isplitl [Hp4]; · iexact Hp4
    isplitl [Hp5]; · iexact Hp5
    iexact Hp6
  isplitl [HB0 HB1 HB2 HS0 HS1 HS2 HV0 HV1 HV2]
  · isplitl [HB0]; · iexact HB0
    isplitl [HB1]; · iexact HB1
    isplitl [HB2]; · iexact HB2
    isplitl [HS0]; · iexact HS0
    isplitl [HS1]; · iexact HS1
    isplitl [HS2]; · iexact HS2
    isplitl [HV0]; · iexact HV0
    isplitl [HV1]; · iexact HV1
    iexact HV2
  isplitl [Hc]; · iexact Hc
  isplitl [HZ]; · iexact HZ
  isplitl [Ha0 Ha1 Hw]
  · isplitl [Ha0]; · iexact Ha0
    isplitl [Ha1]; · iexact Ha1
    iexact Hw
  isplitl [H0]; · iexact H0
  isplitl [H1]; · iexact H1
  isplitl [H2]; · iexact H2
  isplitl [H3]; · iexact H3
  isplitl [H4]; · iexact H4
  iexact H5

/-- and from what the body leaves to what the device ends with. -/
theorem body_end (c : Dev nD) (fc : Buf (Elt F) ((c : Thread nD τ).loc cc0_scratch4)) :
    bodyPost m c ⊢ (iprop(behind m c ∗ ∃ W, owes (c : Thread nD τ) 0 W) : sProp 𝕄) := by
  unfold bodyPost behind outcome scratch cellZeros localZeros
  iintro ⟨Ho, Hz, Hl, ⟨Ha0, Ha1, Hw⟩, H0, H1, H2, H3, H4, H5⟩
  ihave Hw := (result_join m c) $$ Hw
  ihave H4 := (slots_join c fc) $$ H4
  isplitr [Ho]
  · isplitl [Hz Hl]
    · isplitl [Hz]; · iexact Hz
      iexact Hl
    isplitl [Ha0 Ha1 Hw]
    · isplitl [Ha0]; · iexact Ha0
      isplitl [Ha1]; · iexact Ha1
      iexact Hw
    isplitl [H0]; · iexact H0
    isplitl [H1]; · iexact H1
    isplitl [H2]; · iexact H2
    isplitl [H3]; · iexact H3
    isplitl [H4]; · iexact H4
    iexact H5
  iexact Ho

/-- The body takes `before` to `behind`. -/
theorem body_obligation (c : Dev nD) : Pipeline.BodyObligation (dats (F := F) m 0 c) (defs₀ (F := F)) 𝒱₀ () Set.univ := fun t => by
  rw [fin_N0 t, Finset.univ_eq_empty, bigSep_empty, bigSep_empty]
  show iprop(before m c ∗ Pipeline.owesWithin c (owB c) ((dats m 0 c).bound () t0_0.castSucc) ∗ emp)
    ⊢ wp frame (wpE (defs₀ (F := F)) 𝒱₀ c none) Set.univ
      (cc0_body (Memref.whole main_arg0) (Memref.isWhole_whole _) (Memref.whole main_arg1) (Memref.isWhole_whole _) (Memref.whole main_v1) (Memref.isWhole_whole _)
        (Memref.whole cc0_scratch0) (Memref.isWhole_whole _) (Memref.whole cc0_scratch1) (Memref.isWhole_whole _) (Memref.whole cc0_scratch2) (Memref.isWhole_whole _)
        (Memref.whole cc0_scratch3) (Memref.isWhole_whole _) (Memref.whole cc0_scratch4) (Memref.isWhole_whole _) (Memref.whole cc0_scratch5) (Memref.isWhole_whole _)
        cc0_scratch6 cc0_scratch7 cc0_scratch8 cc0_scratch9)
      fun _ => iprop(behind m c ∗ Pipeline.owesWithin c 0 ((dats m 0 c).bound () t0_0.succ) ∗ emp)
  unfold Pipeline.owesWithin
  iintro ⟨Hb, ⟨%W, -, Ho⟩, -⟩
  ihave H := (body_start m c W) $$ [Hb Ho]
  · isplitl [Hb] <;> iassumption
  icases H with ⟨%K, %fc, H⟩
  iapply (sound_body m K c W (m _) fc)
  isplitl [H]; · iexact H
  iintro H
  ihave H := (body_end m c fc) $$ H
  icases H with ⟨Hb, ⟨%W', Ho⟩⟩
  isplitl [Hb]; · iexact Hb
  isplitl [Ho]
  · iexists W'
    isplitr; · ipureintro; exact fun _ _ => Or.inl trivial
    iexact Ho
  iempintro

/-! ## The launch -/

/-- The initial element: the part that drives kernel calls, and the cells and duties of the protocol. -/
def u₀ : UU := (initOf (Pipeline.cells cfgs cellOf_inj) (Pipeline.launchToks cfgs cellOf_inj), (initOf allCells allToks, 1))

/-- The initial element splits into the part that drives kernel calls and what seeds each device. -/
theorem split_u₀ : (ownU u₀ : sProp 𝕄)
    ⊢ |={Set.univ}=> iprop(BI.own (EP (initOf (Pipeline.cells cfgs cellOf_inj) (Pipeline.launchToks cfgs cellOf_inj))) ∗ bigSep Finset.univ (seed m)) := by
  unfold u₀
  iintro Hu
  ihave H := (ownU_pair _ _) $$ Hu
  icases H with ⟨HP, HX⟩
  ihave HX := (own_pair_emb _ _ _) $$ HX
  icases HX with ⟨HX, -⟩
  imod (show BI.own ((Emb.inl.trans embR) (initOf allCells allToks)) ⊢ (|==> bigSep Finset.univ (seed m) : sProp 𝕄) from seeded m) $$ HX with HG
  imodintro
  isplitl [HP]
  · unfold EP; iexact HP
  iexact HG

/-- What the launch gives a device, sorted. -/
theorem given_intro (c : Dev nD) :
    iprop(Pipeline.unscopedRestP Pipeline.Prefetch.none cfg0.spec c (fun b => m ((c : Thread nD τ).loc b)) ∗ levAts L lv
        ∗ Pipeline.launchCred owB c ∗ prngReg c (ρ c) ∗ share m c)
      ⊢ |={Set.univ}=> iprop(given m c ∗ emp) := by
  rw [Pipeline.unscopedRestP_none, arrays_eq]
  iintro ⟨Hr, HL, Hc, -, Hs⟩
  imodintro
  unfold given
  isplitl
  · isplitl [Hs]; · iexact Hs
    isplitl [Hc]; · iexact Hc
    isplitl [HL]; · iexact HL
    iexact Hr
  iempintro

/-- With the scratch buffers it is what the kernel starts from. -/
theorem before_intro (c : Dev nD) :
    iprop(given m c ∗ Pipeline.prefHeld Pipeline.Prefetch.none c (fun _ => fullShare.right) (fun k => k.elim0) ∗ Pipeline.scopedRest cfg0.spec c)
      ⊢ (dats m 0 c).Φ 0 := by
  rw [scratch_eq]
  show _ ⊢ before m c
  unfold before
  iintro ⟨Hg, -, Hs⟩
  isplitl [Hg] <;> iassumption

/-- What the kernel ends with gives back the semaphores and the scratch buffers, and the outcome beside them. -/
theorem behind_elim (c : Dev nD) :
    (dats m 0 c).Φ (Fin.last cfg0.N) ⊢ iprop((unscopedSems0 c ∗ outcome m c) ∗ Pipeline.ownSems0 osem c ∗ Pipeline.scopedRest cfg0.spec c) := by
  rw [scratch_eq]
  show behind m c ⊢ _
  unfold behind
  iintro ⟨Hz, Ho, Hs⟩
  ihave Hz := (sems_sort (F := F) c).2 $$ Hz
  icases Hz with ⟨Hown, Hun⟩
  isplitl [Hun Ho]
  · isplitl [Hun] <;> iassumption
  isplitl [Hown] <;> iassumption

/-- The kernel has no window, so that no window is waited for. -/
theorem waits (c : Dev nD) : (levAts L lv : sProp 𝕄) ⊢ Pipeline.cellsWaits cfgs (dats m) () 0 c :=
  Pipeline.cellsWaits_intro cfgs (dats m) () 0 c fun w => w.elim0

/-- What is read off a device's memory at the end. -/
def Final (c : Dev nD) (s : MemSt nD τ sig (Elt F)) : Prop :=
  (s.mem ((c : Thread nD τ).loc main_arg0) = m ((c : Thread nD τ).loc main_arg0) ∧ s.mem ((c : Thread nD τ).loc main_arg1) = m ((c : Thread nD τ).loc main_arg1))
    ∧ ∀ o, (winM o).view.read (Elt F) (s.mem ((c : Thread nD τ).loc main_v1)) = prod (aB m o) (bB m c)

/-- A buffer held whole is what the memory holds. -/
theorem buf_read (c : Dev nD) (b : Ref sig .tc) (f : Buf (Elt F) ((c : Thread nD τ).loc b)) (s' : Phys nD τ sig (Elt F)) :
    iprop(SI s' ∗ bufPts c b f) ⊢ (⌜s'.mem.mem ((c : Thread nD τ).loc b) = f⌝ : sProp 𝕄) := by
  unfold bufPts
  iintro H
  ihave %h := (SI_pointsTo_agree (ℓ := (c : Thread nD τ).loc b)) $$ H
  ipureintro
  exact funext fun i => h i (Finset.mem_univ i)

/-- The final memory read off what a device ends with. -/
theorem outcome_read (c : Dev nD) (s' : Phys nD τ sig (Elt F)) :
    iprop((unscopedSems0 c ∗ outcome m c) ∗ emp ∗ SI s')
      ⊢ (|={Set.univ}=> iprop(⌜Final m c s'.mem ∧ ∀ sm : SemLoc sig, sm.isScoped .tc = false → s'.mem.sem ((c.tc : Thread nD τ), sm) = 0⌝ ∗ SI s') : sProp 𝕄) := by
  unfold outcome
  iintro ⟨⟨Hu, Ha0, Ha1, ⟨%g, %hg, Hg⟩⟩, -, HSI⟩
  ihave %h0 := (buf_read c main_arg0 _ s') $$ [HSI Ha0]
  · isplitl [HSI] <;> iassumption
  ihave %h1 := (buf_read c main_arg1 _ s') $$ [HSI Ha1]
  · isplitl [HSI] <;> iassumption
  ihave %h2 := (buf_read c main_v1 g s') $$ [HSI Hg]
  · isplitl [HSI] <;> iassumption
  imod (Pipeline.unscopedSems0_read (X := unscopedSems0 c) (c := c) fupd_intro s') $$ [Hu HSI] with ⟨%hz, HSI⟩
  · isplitl [Hu] <;> iassumption
  imodintro
  isplitr
  · ipureintro
    exact ⟨⟨⟨h0, h1⟩, fun o => by rw [h2]; exact hg o⟩, hz⟩
  iexact HSI

/-- From any memory with every counter at zero, every run of `@main` on the four devices ends, at any float values, with every
    device's arguments unchanged, row block `o` of its result device `o`'s block times its own weights, and every counter at zero. -/
theorem run_main : θ_run defs (onTc (τ := τ) (main (F := F))) (s₀ m ρ) (fun r => (∀ c, Final m c r.2) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c).loose) (hne := fun w => w.elim0) (harr := arr_whole0) (hstage := stage_whole0) (hshare := fun _ w => w.elim0)
    (hdistinct := winFacts0.arr_inj)
    (O₀ := owB) (howed₀ := fun _ => rfl) (howedN := fun _ => rfl)
    (L := L) (lv := lv) (hL := L_of_ne) (hwaits := waits m)
    (G := seed m) (G' := share m) (u₀ := u₀) (hu₀ := split_u₀ m) (hglob := glob m)
    (hA := fun _ w => w.elim0) (hpf := fun _ k => k.elim0)
    (X := given m) (Y := fun c => iprop(unscopedSems0 c ∗ outcome m c)) (Z := fun _ => iprop(emp))
    (hX := given_intro m ρ) (hin := before_intro m) (hout := behind_elim m)
    (QY := fun c s => Final m c s ∧ ∀ sm : SemLoc sig, sm.isScoped .tc = false → s.sem ((c.tc : Thread nD τ), sm) = 0)
    (hY := outcome_read m)
    (hQ := fun _ h hs => ⟨fun c => (h c).2.2.1, sem_eq_zero hs fun c => (h c).2.2.2⟩)

end Cert.Gather
end
-- ==== Proof.Value.lean ====
/-
  At the ideal values, the four row blocks that the kernel makes are the reference's whole product.
-/
module

public import proofs.«01_k».proof.Proof.Launch
public import proofs.«01_k».proof.Proof.Gen.ReferenceIdeal.Run
public import Idealize.ShloMosaic.Lib.Layout
public import Idealize.ShloMosaic.PureOps.Ideal.Laws
public import Idealize.ShloMosaic.Lib.ValueIdx

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-- The product of the whole arrays, as the reference makes it. -/
def whole (A : Buf (Elt Ideal) (((0 : Dev Cert.ReferenceIdeal.nD).tc : Thread Cert.ReferenceIdeal.nD Cert.ReferenceIdeal.τ).loc Cert.ReferenceIdeal.main_arg0))
    (B : Buf (Elt Ideal) (((0 : Dev Cert.ReferenceIdeal.nD).tc : Thread Cert.ReferenceIdeal.nD Cert.ReferenceIdeal.τ).loc Cert.ReferenceIdeal.main_arg1)) :
    FVec Ideal Cert.ReferenceIdeal.S2048x512 .bf16 :=
  truncf .bf16 (Host.dotGeneral Cert.ReferenceIdeal.dot_S2048x256_S256x512_S2048x512_1_0_0_1_n_n none (truncf .bf16 A Cert.ReferenceIdeal.Gen.bitsLt_bf16_f32)
    (truncf .bf16 B Cert.ReferenceIdeal.Gen.bitsLt_bf16_f32)) Cert.ReferenceIdeal.Gen.bitsLt_bf16_f32

/-- Element `y` of row block `o` of the result is `512 * o` rows further down in the whole result. -/
abbrev place (o : Dev nD) (y : S512x512.Idx) : S2048x512.Idx := (winM o).view.emb y
/-- Its row, -/
theorem place_row (o : Dev nD) (y : S512x512.Idx) : (place o y 0).val = 512 * o.val + (y 0).val := by
  show ![512 * o.val, 0] 0 + 1 * (y 0).val = _
  simp
/-- and its column, which stays. -/
theorem place_col (o : Dev nD) (y : S512x512.Idx) : (place o y 1).val = (y 1).val := by
  show ![512 * o.val, 0] 1 + 1 * (y 1).val = _
  simp

/-- A row block of a matrix times another matrix is that row block of their product. -/
theorem block_prod (o : Dev nD) (y : S512x512.Idx) (A : Cert.ReferenceIdeal.S2048x256.Idx → EReal) (B : S256x512.Idx → EReal) :
    prod (F := Ideal) (k0_pay1 (F := Ideal) (Layout.block ⟨2, ![512, 256]⟩ ⟨2, ![2048, 256]⟩ 0 4 o A)) (k0_pay2 (F := Ideal) B) y = whole A B (place o y) := by
  unfold prod whole k0_pay1 k0_pay2
  simp only [shapeCast_self, ValueIdx.truncf_apply, matmul, Host.dotGeneral, Ideal.matmul_constant_zero_apply, Ideal.dotGeneral_apply]
  refine Finset.sum_congr rfl fun k _ => ?_
  refine congrArg₂ (· * ·) (congrArg A (funext fun a => Fin.ext ?_)) (congrArg B (funext fun a => Fin.ext ?_))
  · rw [Layout.Tiles.idx_val]
    fin_cases a
    · show _ = (place o y 0).val
      rw [place_row]
      show o.val * 512 + (y 0).val = 512 * o.val + (y 0).val
      rw [Nat.mul_comm]
    · rfl
  · fin_cases a
    · rfl
    · exact (place_col o y).symm

/-- What a device's result holds whose every row block reads as made. -/
theorem result_whole (m : (ℓ : Loc nD τ sig) → Buf (Elt Ideal) ℓ) (A) (B) (hA : ∀ o : Dev nD, m ((o : Thread nD τ).loc main_arg0) = Layout.block ⟨2, ![512, 256]⟩ ⟨2, ![2048, 256]⟩ 0 4 o A)
    (c : Dev nD) (hB : m ((c : Thread nD τ).loc main_arg1) = B) (g : Buf (Elt Ideal) ((c : Thread nD τ).loc main_v1))
    (hg : ∀ o, (winM o).view.read (Elt Ideal) g = prod (F := Ideal) (aB (F := Ideal) m o) (bB (F := Ideal) m c)) : g = whole A B := by
  refine funext fun (i : S2048x512.Idx) => ?_
  obtain ⟨o, -, ho⟩ := Finset.mem_biUnion.mp (win_cover ▸ Finset.mem_univ i)
  obtain ⟨y, -, rfl⟩ := Finset.mem_map.mp ho
  refine (congrFun (hg o) y).trans ?_
  unfold aB bB
  rw [hA o, hB]
  exact block_prod o y A B

end Cert.Gather
end
-- ==== Proof.lean ====
/-
  The five claims of this certificate: the kernel, as printed and at the ideal values, and the reference all run, leaving the
  arguments as they were and every semaphore counter at zero; the kernel at the ideal values is the same program; and there, every
  device's result is the reference's product of the whole arrays.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Value
public import Idealize.ShloMosaic.Lib.Quiescent

@[expose] public section

noncomputable section

namespace Cert.Proof

open Idealize.ShloMosaic Idealize.ShloMosaic.TcCoe Idealize.SL.Sem

/-- The kernel as printed: it and the kernel at the ideal values are one text, so the run of either is the run of both. -/
theorem frame_kernel : Cert.quiescent_Kernel := fun m ρ _ =>
  (θ_run Cert.KernelIdeal.defs _ _).mono (fun _ h => ⟨fun c => (h.1 c).1, h.2⟩) (Cert.Gather.run_main (F := Bits) m ρ)

/-- The kernel at the ideal values runs, its arguments unchanged and its counters at zero. -/
theorem frame_ideal : Cert.quiescent_KernelIdeal := fun m ρ _ =>
  (θ_run Cert.KernelIdeal.defs _ _).mono (fun _ h => ⟨fun c => (h.1 c).1, h.2⟩) (Cert.Gather.run_main (F := Ideal) m ρ)

/-- The reference runs, its arguments unchanged; it has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- On arguments cut from the reference's, every device's result is the reference's. -/
theorem value : Cert.algebraic_KernelIdeal_ReferenceIdeal := fun m ρ m' ρ' _ hm =>
  ⟨Cert.Gather.whole (m' _) (m' _),
    (θ_run Cert.KernelIdeal.defs _ _).mono
      (fun r h c => ⟨Cert.Gather.result_whole m _ _ (fun o => (hm o).1) c (hm c).2 (r.2.mem _) (h.1 c).2, (h.1 c).1⟩)
      (Cert.Gather.run_main (F := Ideal) m ρ),
    (θ_run Cert.ReferenceIdeal.defs _ _).mono (fun _ h => h 0) (Cert.ReferenceIdeal.Value.run (F := Ideal) m' ρ')⟩

/-- All that this certificate claims. -/
theorem claim : Cert.Claim :=
  ⟨Cert.Kernel.Gen.facts, Cert.KernelIdeal.Gen.facts, Cert.ReferenceIdeal.Gen.facts, frame_kernel, frame_ideal, frame_reference, trivial, value⟩

end Cert.Proof

end
